-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S3x4096x4096 : Shape := ⟨3, ![3, 4096, 4096]⟩
abbrev S3x128x64 : Shape := ⟨3, ![3, 128, 64]⟩
abbrev S3x64 : Shape := ⟨2, ![3, 64]⟩
abbrev S3x64x32 : Shape := ⟨3, ![3, 64, 32]⟩
abbrev S3x32 : Shape := ⟨2, ![3, 32]⟩
abbrev S32 : Shape := ⟨1, ![32]⟩
abbrev S32x8 : Shape := ⟨2, ![32, 8]⟩
abbrev S8 : Shape := ⟨1, ![8]⟩
abbrev S3x1x64 : Shape := ⟨3, ![3, 1, 64]⟩
abbrev S3x1x32 : Shape := ⟨3, ![3, 1, 32]⟩
abbrev S32x1 : Shape := ⟨2, ![32, 1]⟩
abbrev S1x8 : Shape := ⟨2, ![1, 8]⟩
abbrev S3x4096x64 : Shape := ⟨3, ![3, 4096, 64]⟩
abbrev S1x1024x4096 : Shape := ⟨3, ![1, 1024, 4096]⟩
abbrev S1x1024x64 : Shape := ⟨3, ![1, 1024, 64]⟩
abbrev S4096x64 : Shape := ⟨2, ![4096, 64]⟩
abbrev S1024x4096 : Shape := ⟨2, ![1024, 4096]⟩
abbrev S1x128x64 : Shape := ⟨3, ![1, 128, 64]⟩
abbrev S128x64 : Shape := ⟨2, ![128, 64]⟩
abbrev S1024x64 : Shape := ⟨2, ![1024, 64]⟩
abbrev S1x1x64 : Shape := ⟨3, ![1, 1, 64]⟩
abbrev S1x64 : Shape := ⟨2, ![1, 64]⟩
abbrev S4096x8 : Shape := ⟨2, ![4096, 8]⟩
abbrev S1x4096x64 : Shape := ⟨3, ![1, 4096, 64]⟩
abbrev S1024x8 : Shape := ⟨2, ![1024, 8]⟩
abbrev S4096x32 : Shape := ⟨2, ![4096, 32]⟩
abbrev S1x32 : Shape := ⟨2, ![1, 32]⟩
abbrev S1x64x32 : Shape := ⟨3, ![1, 64, 32]⟩
abbrev S64x32 : Shape := ⟨2, ![64, 32]⟩
abbrev S1024x32 : Shape := ⟨2, ![1024, 32]⟩
abbrev S1x1x32 : Shape := ⟨3, ![1, 1, 32]⟩
abbrev S1024x1 : Shape := ⟨2, ![1024, 1]⟩
abbrev S1024 : Shape := ⟨1, ![1024]⟩

abbrev nBuf : Space → Nat
  | .hbm => 17
  | .vmem => 28
  | .smem => 0
  | _ => 0

abbrev bufTy : (tb : Table) → Fin (tcTables nBuf tb) → BufTy
  | .hbm, ⟨0, _⟩ => ⟨S4096x128, .f32⟩
  | .hbm, ⟨1, _⟩ => ⟨S3x4096x4096, .f32⟩
  | .hbm, ⟨2, _⟩ => ⟨S3x128x64, .f32⟩
  | .hbm, ⟨3, _⟩ => ⟨S3x64, .f32⟩
  | .hbm, ⟨4, _⟩ => ⟨S3x64x32, .f32⟩
  | .hbm, ⟨5, _⟩ => ⟨S3x32, .f32⟩
  | .hbm, ⟨6, _⟩ => ⟨S32, .f32⟩
  | .hbm, ⟨7, _⟩ => ⟨S32x8, .f32⟩
  | .hbm, ⟨8, _⟩ => ⟨S8, .f32⟩
  | .hbm, ⟨9, _⟩ => ⟨S3x1x64, .f32⟩
  | .hbm, ⟨10, _⟩ => ⟨S3x1x32, .f32⟩
  | .hbm, ⟨11, _⟩ => ⟨S32x1, .f32⟩
  | .hbm, ⟨12, _⟩ => ⟨S1x8, .f32⟩
  | .hbm, ⟨13, _⟩ => ⟨S3x64x32, .bf16⟩
  | .hbm, ⟨14, _⟩ => ⟨S3x4096x64, .bf16⟩
  | .hbm, ⟨15, _⟩ => ⟨S3x4096x4096, .i8⟩
  | .hbm, ⟨16, _⟩ => ⟨S4096x8, .f32⟩
  | .local _ .vmem, ⟨0, _⟩ => ⟨S4096x128, .f32⟩
  | .local _ .vmem, ⟨1, _⟩ => ⟨S1x1024x4096, .f32⟩
  | .local _ .vmem, ⟨2, _⟩ => ⟨S1x1024x4096, .f32⟩
  | .local _ .vmem, ⟨3, _⟩ => ⟨S3x128x64, .f32⟩
  | .local _ .vmem, ⟨4, _⟩ => ⟨S3x1x64, .f32⟩
  | .local _ .vmem, ⟨5, _⟩ => ⟨S1x1024x64, .bf16⟩
  | .local _ .vmem, ⟨6, _⟩ => ⟨S1x1024x64, .bf16⟩
  | .local _ .vmem, ⟨7, _⟩ => ⟨S1x1024x4096, .i8⟩
  | .local _ .vmem, ⟨8, _⟩ => ⟨S1x1024x4096, .i8⟩
  | .local _ .vmem, ⟨9, _⟩ => ⟨S4096x64, .bf16⟩
  | .local _ .vmem, ⟨10, _⟩ => ⟨S1x1024x4096, .i8⟩
  | .local _ .vmem, ⟨11, _⟩ => ⟨S1x1024x4096, .i8⟩
  | .local _ .vmem, ⟨12, _⟩ => ⟨S1x4096x64, .bf16⟩
  | .local _ .vmem, ⟨13, _⟩ => ⟨S1x4096x64, .bf16⟩
  | .local _ .vmem, ⟨14, _⟩ => ⟨S3x64x32, .bf16⟩
  | .local _ .vmem, ⟨15, _⟩ => ⟨S3x1x32, .f32⟩
  | .local _ .vmem, ⟨16, _⟩ => ⟨S32x1, .f32⟩
  | .local _ .vmem, ⟨17, _⟩ => ⟨S32x8, .f32⟩
  | .local _ .vmem, ⟨18, _⟩ => ⟨S1x8, .f32⟩
  | .local _ .vmem, ⟨19, _⟩ => ⟨S1024x8, .f32⟩
  | .local _ .vmem, ⟨20, _⟩ => ⟨S1024x8, .f32⟩
  | .local _ .vmem, ⟨21, _⟩ => ⟨S4096x32, .i8⟩
  | .local _ .vmem, ⟨22, _⟩ => ⟨S4096x32, .i8⟩
  | .local _ .vmem, ⟨23, _⟩ => ⟨S1x32, .f32⟩
  | .local _ .vmem, ⟨24, _⟩ => ⟨S1x32, .f32⟩
  | .local _ .vmem, ⟨25, _⟩ => ⟨S1x32, .f32⟩
  | .local _ .vmem, ⟨26, _⟩ => ⟨S4096x32, .f32⟩
  | .local _ .vmem, ⟨27, _⟩ => ⟨S4096x32, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc1_scratch5 : Ref sig .tc := ⟨.vmem, 26, rfl⟩
abbrev cc1_scratch6 : Ref sig .tc := ⟨.vmem, 27, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v5e

variable {F : FTy → Type} [FloatOps F]

abbrev grid0 : Pipeline.Grid := ⟨2, ![3, 4], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_2 : BitVec 32 := 0#32
  let v4 : BitVec 1 := Scalar.cmpi .ne v3 c0_i32_2
  v4

def k0_off1 (i : grid0.Coords) : Fin 3 → Nat :=
  let arg0 : BitVec 32 := BitVec.ofNat 32 (i 0).val
  let v29 : Index := Scalar.indexCast arg0
  let c0_18 : Index := 0#32
  let c0_19 : Index := 0#32
  ![v29.toNat, 0, 0]
def k0_off2 (i : grid0.Coords) : Fin 3 → Nat :=
  let arg0 : BitVec 32 := BitVec.ofNat 32 (i 0).val
  let v8 : Index := Scalar.indexCast arg0
  let c0_5 : Index := 0#32
  let c0_6 : Index := 0#32
  ![v8.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x4096 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![3, 4], ![false, false]⟩

def k1_cond1 (i : grid1.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_2 : BitVec 32 := 0#32
  let v5 : BitVec 1 := Scalar.cmpi .ne v4 c0_i32_2
  v5

def k1_off1 (i : grid1.Coords) : Fin 3 → Nat :=
  let arg0 : BitVec 32 := BitVec.ofNat 32 (i 0).val
  let v40 : Index := Scalar.indexCast arg0
  let c0_24 : Index := 0#32
  let c0_25 : Index := 0#32
  ![v40.toNat, 0, 0]
def k1_off2 (i : grid1.Coords) : Fin 3 → Nat :=
  let arg0 : BitVec 32 := BitVec.ofNat 32 (i 0).val
  let v22 : Index := Scalar.indexCast arg0
  let c0_14 : Index := 0#32
  let c0_15 : Index := 0#32
  ![v22.toNat, 0, 0]
def k1_cond2 (i : grid1.Coords) : BitVec 1 :=
  let arg0 : BitVec 32 := BitVec.ofNat 32 (i 0).val
  let c0_i32_17 : BitVec 32 := 0#32
  let v29 : BitVec 1 := Scalar.cmpi .eq arg0 c0_i32_17
  let v30 : BitVec 32 := Scalar.extui v29
  let c0_i32_18 : BitVec 32 := 0#32
  let v31 : BitVec 1 := Scalar.cmpi .ne v30 c0_i32_18
  v31

def k1_off3 (i : grid1.Coords) : Fin 2 → Nat :=
  let arg1 : BitVec 32 := BitVec.ofNat 32 (i 1).val
  let c1024_i32 : BitVec 32 := 1024#32
  let v0 : BitVec 32 := Scalar.muli arg1 c1024_i32
  let v38 : Index := Scalar.indexCast v0
  let c0_21 : Index := 0#32
  ![v38.toNat, 0]
def k1_cond3 (i : grid1.Coords) : BitVec 1 :=
  let arg0 : BitVec 32 := BitVec.ofNat 32 (i 0).val
  let c1_i32 : BitVec 32 := 1#32
  let v32 : BitVec 1 := Scalar.cmpi .eq arg0 c1_i32
  let v33 : BitVec 32 := Scalar.extui v32
  let c0_i32_19 : BitVec 32 := 0#32
  let v34 : BitVec 1 := Scalar.cmpi .ne v33 c0_i32_19
  v34

def k1_off4 (i : grid1.Coords) : Fin 2 → Nat :=
  let arg1 : BitVec 32 := BitVec.ofNat 32 (i 1).val
  let c1024_i32 : BitVec 32 := 1024#32
  let v0 : BitVec 32 := Scalar.muli arg1 c1024_i32
  let v38 : Index := Scalar.indexCast v0
  let c0_21 : Index := 0#32
  ![v38.toNat, 0]
def k1_cond4 (i : grid1.Coords) : BitVec 1 :=
  let arg0 : BitVec 32 := BitVec.ofNat 32 (i 0).val
  let c2_i32 : BitVec 32 := 2#32
  let v35 : BitVec 1 := Scalar.cmpi .eq arg0 c2_i32
  let v36 : BitVec 32 := Scalar.extui v35
  let c0_i32_20 : BitVec 32 := 0#32
  let v37 : BitVec 1 := Scalar.cmpi .ne v36 c0_i32_20
  v37

def k1_off5 (i : grid1.Coords) : Fin 2 → Nat :=
  let arg1 : BitVec 32 := BitVec.ofNat 32 (i 1).val
  let c1024_i32 : BitVec 32 := 1024#32
  let v0 : BitVec 32 := Scalar.muli arg1 c1024_i32
  let v38 : Index := Scalar.indexCast v0
  let c0_21 : Index := 0#32
  ![v38.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S1x1024x4096 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S3x64x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S3x1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S32x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x8 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]
-- ==== ReferenceIdeal.lean ====
abbrev S4096x128 : Shape := ⟨2, ![4096, 128]⟩
abbrev S3x4096x4096 : Shape := ⟨3, ![3, 4096, 4096]⟩
abbrev S3x128x64 : Shape := ⟨3, ![3, 128, 64]⟩
abbrev S3x64 : Shape := ⟨2, ![3, 64]⟩
abbrev S3x64x32 : Shape := ⟨3, ![3, 64, 32]⟩
abbrev S3x32 : Shape := ⟨2, ![3, 32]⟩
abbrev S32 : Shape := ⟨1, ![32]⟩
abbrev S32x8 : Shape := ⟨2, ![32, 8]⟩
abbrev S8 : Shape := ⟨1, ![8]⟩
abbrev S3x64x4096 : Shape := ⟨3, ![3, 64, 4096]⟩
abbrev S3x4096x64 : Shape := ⟨3, ![3, 4096, 64]⟩
abbrev S3x1x64 : Shape := ⟨3, ![3, 1, 64]⟩
abbrev S_ : Shape := ⟨0, ![]⟩
abbrev S3x4096x32 : Shape := ⟨3, ![3, 4096, 32]⟩
abbrev S3x1x32 : Shape := ⟨3, ![3, 1, 32]⟩
abbrev S3x4096 : Shape := ⟨2, ![3, 4096]⟩
abbrev S4096 : Shape := ⟨1, ![4096]⟩
abbrev S1x4096 : Shape := ⟨2, ![1, 4096]⟩
abbrev S4096x32 : Shape := ⟨2, ![4096, 32]⟩
abbrev S4096x1 : Shape := ⟨2, ![4096, 1]⟩
abbrev S4096x8 : Shape := ⟨2, ![4096, 8]⟩
abbrev S1x8 : Shape := ⟨2, ![1, 8]⟩

abbrev nBuf : Space → Nat
  | .hbm => 145
  | .vmem => 0
  | .smem => 0
  | _ => 0

abbrev hbmTy0_0 (i : Nat) : BufTy := match i % 128 with
  | 0 => ⟨S4096x128, .f32⟩
  | 1 => ⟨S3x4096x4096, .f32⟩
  | 2 => ⟨S3x128x64, .f32⟩
  | 3 => ⟨S3x64, .f32⟩
  | 4 => ⟨S3x64x32, .f32⟩
  | 5 => ⟨S3x32, .f32⟩
  | 6 => ⟨S32, .f32⟩
  | 7 => ⟨S32x8, .f32⟩
  | 8 => ⟨S8, .f32⟩
  | 9 => ⟨S3x64x4096, .f32⟩
  | 10 => ⟨S3x4096x64, .f32⟩
  | 11 => ⟨S3x4096x64, .f32⟩
  | 12 => ⟨S3x1x64, .f32⟩
  | 13 => ⟨S3x4096x64, .f32⟩
  | 14 => ⟨S3x4096x64, .f32⟩
  | 15 => ⟨S_, .f32⟩
  | 16 => ⟨S3x4096x64, .f32⟩
  | 17 => ⟨S3x4096x64, .f32⟩
  | 18 => ⟨S_, .f32⟩
  | 19 => ⟨S3x4096x4096, .f32⟩
  | 20 => ⟨S3x4096x4096, .f32⟩
  | 21 => ⟨S_, .f32⟩
  | 22 => ⟨S3x4096x4096, .f32⟩
  | 23 => ⟨S3x4096x4096, .f32⟩
  | 24 => ⟨S3x4096x4096, .f32⟩
  | 25 => ⟨S_, .f32⟩
  | 26 => ⟨S_, .f32⟩
  | 27 => ⟨S_, .f32⟩
  | 28 => ⟨S3x4096x4096, .f32⟩
  | 29 => ⟨S3x4096x4096, .f32⟩
  | 30 => ⟨S_, .f32⟩
  | 31 => ⟨S3x4096x4096, .f32⟩
  | 32 => ⟨S3x4096x4096, .f32⟩
  | 33 => ⟨S3x4096x32, .f32⟩
  | 34 => ⟨S3x4096x32, .f32⟩
  | 35 => ⟨S_, .f32⟩
  | 36 => ⟨S3x32, .f32⟩
  | 37 => ⟨S3x1x32, .f32⟩
  | 38 => ⟨S_, .f32⟩
  | 39 => ⟨S3x1x32, .f32⟩
  | 40 => ⟨S3x1x32, .f32⟩
  | 41 => ⟨S_, .f32⟩
  | 42 => ⟨S3x1x32, .f32⟩
  | 43 => ⟨S3x1x32, .f32⟩
  | 44 => ⟨S3x4096x32, .f32⟩
  | 45 => ⟨S3x4096x32, .f32⟩
  | 46 => ⟨S3x4096x32, .f32⟩
  | 47 => ⟨S3x4096x32, .f32⟩
  | 48 => ⟨S3x4096x32, .f32⟩
  | 49 => ⟨S3x4096x32, .f32⟩
  | 50 => ⟨S3x4096x32, .f32⟩
  | 51 => ⟨S_, .f32⟩
  | 52 => ⟨S3x32, .f32⟩
  | 53 => ⟨S3x1x32, .f32⟩
  | 54 => ⟨S_, .f32⟩
  | 55 => ⟨S3x1x32, .f32⟩
  | 56 => ⟨S3x1x32, .f32⟩
  | 57 => ⟨S_, .f32⟩
  | 58 => ⟨S3x1x32, .f32⟩
  | 59 => ⟨S3x1x32, .f32⟩
  | 60 => ⟨S3x4096x32, .f32⟩
  | 61 => ⟨S3x4096x32, .f32⟩
  | 62 => ⟨S3x4096x32, .f32⟩
  | 63 => ⟨S_, .f32⟩
  | 64 => ⟨S_, .f32⟩
  | 65 => ⟨S_, .f32⟩
  | 66 => ⟨S3x4096x32, .f32⟩
  | 67 => ⟨S3x4096x32, .f32⟩
  | 68 => ⟨S_, .f32⟩
  | 69 => ⟨S3x4096x32, .f32⟩
  | 70 => ⟨S3x4096x32, .f32⟩
  | 71 => ⟨S3x4096x32, .f32⟩
  | 72 => ⟨S3x4096x32, .f32⟩
  | 73 => ⟨S_, .f32⟩
  | 74 => ⟨S_, .f32⟩
  | 75 => ⟨S_, .f32⟩
  | 76 => ⟨S3x4096x32, .f32⟩
  | 77 => ⟨S3x4096x32, .f32⟩
  | 78 => ⟨S_, .f32⟩
  | 79 => ⟨S3x4096x32, .f32⟩
  | 80 => ⟨S3x4096x32, .f32⟩
  | 81 => ⟨S3x4096x32, .f32⟩
  | 82 => ⟨S3x4096x32, .f32⟩
  | 83 => ⟨S3x4096x32, .f32⟩
  | 84 => ⟨S_, .f32⟩
  | 85 => ⟨S3x4096x4096, .f32⟩
  | 86 => ⟨S3x4096x4096, .f32⟩
  | 87 => ⟨S3x4096x32, .f32⟩
  | 88 => ⟨S_, .f32⟩
  | 89 => ⟨S3x32, .f32⟩
  | 90 => ⟨S3x1x32, .f32⟩
  | 91 => ⟨S_, .f32⟩
  | 92 => ⟨S3x1x32, .f32⟩
  | 93 => ⟨S3x1x32, .f32⟩
  | 94 => ⟨S3x4096x32, .f32⟩
  | 95 => ⟨S3x4096x32, .f32⟩
  | 96 => ⟨S3x1x32, .f32⟩
  | 97 => ⟨S3x4096x32, .f32⟩
  | 98 => ⟨S3x4096x32, .f32⟩
  | 99 => ⟨S_, .f32⟩
  | 100 => ⟨S3x4096x32, .f32⟩
  | 101 => ⟨S3x4096x32, .f32⟩
  | 102 => ⟨S3x4096, .f32⟩
  | 103 => ⟨S_, .f32⟩
  | 104 => ⟨S_, .f32⟩
  | 105 => ⟨S3x4096, .f32⟩
  | 106 => ⟨S3x4096, .i1⟩
  | 107 => ⟨S_, .f32⟩
  | 108 => ⟨S3x4096, .f32⟩
  | 109 => ⟨S3x4096, .f32⟩
  | 110 => ⟨S3x4096, .f32⟩
  | 111 => ⟨S_, .f32⟩
  | 112 => ⟨S4096, .f32⟩
  | 113 => ⟨S1x4096, .f32⟩
  | 114 => ⟨S3x4096, .f32⟩
  | 115 => ⟨S3x4096, .f32⟩
  | 116 => ⟨S3x4096, .f32⟩
  | 117 => ⟨S4096x32, .f32⟩
  | 118 => ⟨S_, .f32⟩
  | 119 => ⟨S4096, .f32⟩
  | 120 => ⟨S4096x1, .f32⟩
  | 121 => ⟨S4096x32, .f32⟩
  | 122 => ⟨S4096x32, .f32⟩
  | 123 => ⟨S4096x8, .f32⟩
  | 124 => ⟨S1x8, .f32⟩
  | 125 => ⟨S4096x8, .f32⟩
  | 126 => ⟨S4096x8, .f32⟩
  | 127 => ⟨S_, .f32⟩
  | _ => ⟨S4096x128, .f32⟩

abbrev hbmTy0_1 (i : Nat) : BufTy := match i % 128 with
  | 0 => ⟨S4096x8, .f32⟩
  | 1 => ⟨S4096x8, .f32⟩
  | 2 => ⟨S_, .f32⟩
  | 3 => ⟨S4096, .f32⟩
  | 4 => ⟨S_, .f32⟩
  | 5 => ⟨S4096, .f32⟩
  | 6 => ⟨S4096, .f32⟩
  | 7 => ⟨S4096x1, .f32⟩
  | 8 => ⟨S4096x8, .f32⟩
  | 9 => ⟨S4096x8, .f32⟩
  | 10 => ⟨S4096x8, .f32⟩
  | 11 => ⟨S_, .f32⟩
  | 12 => ⟨S4096, .f32⟩
  | 13 => ⟨S4096x1, .f32⟩
  | 14 => ⟨S4096x1, .f32⟩
  | 15 => ⟨S4096x8, .f32⟩
  | 16 => ⟨S4096x8, .f32⟩
  | _ => ⟨S4096x128, .f32⟩

abbrev hbmTy (i : Nat) : BufTy := match i / 128 with
  | 0 => hbmTy0_0 i
  | 1 => hbmTy0_1 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_cst : Ref sig .tc := ⟨.hbm, 15, rfl⟩
abbrev main_call0_v0 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_cst_8 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_9 : Ref sig .tc := ⟨.hbm, 63, rfl⟩
abbrev main_cst_10 : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_11 : Ref sig .tc := ⟨.hbm, 73, rfl⟩
abbrev main_cst_12 : Ref sig .tc := ⟨.hbm, 74, rfl⟩
abbrev main_call6_v0 : Ref sig .tc := ⟨.hbm, 75, rfl⟩
abbrev main_call6_v1 : Ref sig .tc := ⟨.hbm, 76, rfl⟩
abbrev main_call6_v2 : Ref sig .tc := ⟨.hbm, 77, rfl⟩
abbrev main_call6_v3 : Ref sig .tc := ⟨.hbm, 78, rfl⟩
abbrev main_call6_v4 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_13 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_14 : Ref sig .tc := ⟨.hbm, 88, rfl⟩
abbrev main_v47 : Ref sig .tc := ⟨.hbm, 89, rfl⟩
abbrev main_v48 : Ref sig .tc := ⟨.hbm, 90, rfl⟩
abbrev main_cst_15 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_call7_cst : Ref sig .tc := ⟨.hbm, 99, rfl⟩
abbrev main_call7_v0 : Ref sig .tc := ⟨.hbm, 100, rfl⟩
abbrev main_v56 : Ref sig .tc := ⟨.hbm, 101, rfl⟩
abbrev main_v57 : Ref sig .tc := ⟨.hbm, 102, rfl⟩
abbrev main_cst_16 : Ref sig .tc := ⟨.hbm, 103, rfl⟩
abbrev main_call8_cst : Ref sig .tc := ⟨.hbm, 104, rfl⟩
abbrev main_call8_v0 : Ref sig .tc := ⟨.hbm, 105, rfl⟩
abbrev main_call8_v1 : Ref sig .tc := ⟨.hbm, 106, rfl⟩
abbrev main_call8_v2 : Ref sig .tc := ⟨.hbm, 107, rfl⟩
abbrev main_call8_v3 : Ref sig .tc := ⟨.hbm, 108, rfl⟩
abbrev main_call8_v4 : Ref sig .tc := ⟨.hbm, 109, rfl⟩
abbrev main_v58 : Ref sig .tc := ⟨.hbm, 110, rfl⟩
abbrev main_cst_17 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_18 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_call9_cst : Ref sig .tc := ⟨.hbm, 127, rfl⟩
abbrev main_call9_v0 : Ref sig .tc := ⟨.hbm, 128, rfl⟩
abbrev main_v73 : Ref sig .tc := ⟨.hbm, 129, rfl⟩
abbrev main_call10_cst : Ref sig .tc := ⟨.hbm, 130, rfl⟩
abbrev main_call10_v0 : Ref sig .tc := ⟨.hbm, 131, rfl⟩
abbrev main_call10_cst_0 : Ref sig .tc := ⟨.hbm, 132, rfl⟩
abbrev main_call10_v1 : Ref sig .tc := ⟨.hbm, 133, rfl⟩
abbrev main_call10_v2 : Ref sig .tc := ⟨.hbm, 134, rfl⟩
abbrev main_call10_v3 : Ref sig .tc := ⟨.hbm, 135, rfl⟩
abbrev main_call10_v4 : Ref sig .tc := ⟨.hbm, 136, rfl⟩
abbrev main_call10_v5 : Ref sig .tc := ⟨.hbm, 137, rfl⟩
abbrev main_call10_v6 : Ref sig .tc := ⟨.hbm, 138, rfl⟩
abbrev main_call10_cst_1 : Ref sig .tc := ⟨.hbm, 139, rfl⟩
abbrev main_call10_v7 : Ref sig .tc := ⟨.hbm, 140, rfl⟩
abbrev main_call10_v8 : Ref sig .tc := ⟨.hbm, 141, rfl⟩
abbrev main_call10_v9 : Ref sig .tc := ⟨.hbm, 142, rfl⟩
abbrev main_call10_v10 : Ref sig .tc := ⟨.hbm, 143, rfl⟩
abbrev main_v74 : Ref sig .tc := ⟨.hbm, 144, rfl⟩

abbrev nD : Nat := 1
abbrev τ : Topo := Topo.v5e

variable {F : FTy → Type} [FloatOps F]
-- ==== Proof.Values.lean ====
/-
  What each grid point of the two pipelines computes, as functions of the blocks it is given: one slab of a stack of three, four
  bands of 1024 rows of a 4096-row buffer, and the two layers' stored values over them. With them the closed forms of the body's
  offsets and branch conditions in the grid coordinates, and of the coordinates in the point's number.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.VecWindow
public import Idealize.ShloMosaic.Lib.ValueIdxCore

@[expose] public section

noncomputable section

namespace Cert.Hand

open Cert.KernelIdeal Cert.KernelIdeal.Gen
open Idealize.ShloMosaic Idealize.ShloMosaic.TcCoe Idealize.ShloMosaic.ValueIdx

variable {F : FTy → Type} [FloatOps F]

/-! ## Parts of a buffer -/

/-- Slab `m` of a stack of three matrices, kept as a stack of one. -/
def slab {α : Type} {a b : Nat} (X : (⟨3, ![3, a, b]⟩ : Shape).Idx → α) (m : Fin 3) : (⟨3, ![1, a, b]⟩ : Shape).Idx → α :=
  fun y => X (ix3 m (y 1) (y 2))

/-- Row `p` of band `r` in the whole buffer. -/
def bandRow (r : Fin 4) (p : Fin 1024) : Fin 4096 := ⟨1024 * r.val + p.val, by omega⟩

/-- Band `r` (1024 rows) of a 4096-row buffer. -/
def band {α : Type} {b : Nat} (X : (⟨2, ![4096, b]⟩ : Shape).Idx → α) (r : Fin 4) : (⟨2, ![1024, b]⟩ : Shape).Idx → α :=
  fun y => X (ix2 (bandRow r (y 0)) (y 1))

/-- The buffer with `w` over band `r`. -/
def setBand {α : Type} (X : (⟨2, ![4096, 32]⟩ : Shape).Idx → α) (r : Fin 4) (w : (⟨2, ![1024, 32]⟩ : Shape).Idx → α) :
    (⟨2, ![4096, 32]⟩ : Shape).Idx → α :=
  VecWindow.put (s := ⟨2, ![4096, 32]⟩) X ![1024 * r.val, 0] ![1024, 32] w

theorem window_slab {α : Type} {a b : Nat} (X : (⟨3, ![3, a, b]⟩ : Shape).Idx → α) (m : Fin 3)
    (inb : ∀ k : Fin 3, (![m.val, 0, 0] : Fin 3 → ℕ) k + (![1, a, b] : Fin 3 → ℕ) k ≤ (![3, a, b] : Fin 3 → ℕ) k) :
    VecWindow.window (s := ⟨3, ![3, a, b]⟩) X ![m.val, 0, 0] ![1, a, b] inb = slab X m := by
  funext y
  refine congrArg X (funext fun k => Fin.ext ?_)
  match k with
  | ⟨0, _⟩ =>
    have h : (y (0 : Fin 3)).val < 1 := (y (0 : Fin 3)).isLt
    show m.val + 1 * (y (0 : Fin 3)).val = m.val
    omega
  | ⟨1, _⟩ => show 0 + 1 * (y (1 : Fin 3)).val = (y (1 : Fin 3)).val; omega
  | ⟨2, _⟩ => show 0 + 1 * (y (2 : Fin 3)).val = (y (2 : Fin 3)).val; omega

theorem window_band {α : Type} {b : Nat} (X : (⟨2, ![4096, b]⟩ : Shape).Idx → α) (r : Fin 4)
    (inb : ∀ k : Fin 2, (![1024 * r.val, 0] : Fin 2 → ℕ) k + (![1024, b] : Fin 2 → ℕ) k ≤ (![4096, b] : Fin 2 → ℕ) k) :
    VecWindow.window (s := ⟨2, ![4096, b]⟩) X ![1024 * r.val, 0] ![1024, b] inb = band X r := by
  funext y
  refine congrArg X (funext fun k => Fin.ext ?_)
  match k with
  | ⟨0, _⟩ => show 1024 * r.val + 1 * (y (0 : Fin 2)).val = 1024 * r.val + (y (0 : Fin 2)).val; omega
  | ⟨1, _⟩ => show 0 + 1 * (y (1 : Fin 2)).val = (y (1 : Fin 2)).val; omega

theorem band_inb (r : Fin 4) (k : Fin 2) : (![1024 * r.val, 0] : Fin 2 → ℕ) k + (![1024, 32] : Fin 2 → ℕ) k ≤ (![4096, 32] : Fin 2 → ℕ) k := by
  have := r.isLt
  match k with
  | ⟨0, _⟩ => show 1024 * r.val + 1024 ≤ 4096; omega
  | ⟨1, _⟩ => show 0 + 32 ≤ 32; omega

theorem slab_inb (a b : Nat) (m : Fin 3) (k : Fin 3) : (![m.val, 0, 0] : Fin 3 → ℕ) k + (![1, a, b] : Fin 3 → ℕ) k ≤ (![3, a, b] : Fin 3 → ℕ) k := by
  have := m.isLt
  match k with
  | ⟨0, _⟩ => show m.val + 1 ≤ 3; omega
  | ⟨1, _⟩ => show 0 + a ≤ a; omega
  | ⟨2, _⟩ => show 0 + b ≤ b; omega

/-- The band just set is what was put there. -/
theorem band_setBand_same {α : Type} (X : (⟨2, ![4096, 32]⟩ : Shape).Idx → α) (r : Fin 4) (w : (⟨2, ![1024, 32]⟩ : Shape).Idx → α) :
    band (setBand X r w) r = w := by
  rw [← window_band _ r (band_inb r)]
  exact VecWindow.window_put_same (s := ⟨2, ![4096, 32]⟩) X ![1024 * r.val, 0] ![1024, 32] (band_inb r) w

/-- Another band is what it was. -/
theorem band_setBand_of_ne {α : Type} (X : (⟨2, ![4096, 32]⟩ : Shape).Idx → α) {r r' : Fin 4} (h : r' ≠ r) (w : (⟨2, ![1024, 32]⟩ : Shape).Idx → α) :
    band (setBand X r w) r' = band X r' := by
  have hv : r'.val ≠ r.val := fun e => h (Fin.ext e)
  rw [← window_band _ r' (band_inb r'), ← window_band _ r' (band_inb r')]
  refine VecWindow.window_put_of_disjoint (s := ⟨2, ![4096, 32]⟩) X ![1024 * r.val, 0] ![1024, 32] ![1024 * r'.val, 0] ![1024, 32] (band_inb r') w 0 ?_
  show 1024 * r'.val + 1024 ≤ 1024 * r.val ∨ 1024 * r.val + 1024 ≤ 1024 * r'.val
  omega

/-! ## Offsets and conditions in the grid coordinates -/

theorem off_word3 : ∀ v : Fin 3, (Scalar.indexCast (BitVec.ofNat 32 v.val)).toNat = v.val := by decide

theorem off_word4 : ∀ v : Fin 4, (Scalar.indexCast (Scalar.muli (BitVec.ofNat 32 v.val) 1024#32)).toNat = 1024 * v.val := by decide

/-- The graph of a point and its row band. -/
abbrev gr0 (i : grid0.Coords) : Fin 3 := i 0
abbrev gr1 (i : grid1.Coords) : Fin 3 := i 0
abbrev bd1 (i : grid1.Coords) : Fin 4 := i 1

theorem k0_off1_eq (i : grid0.Coords) : k0_off1 i = ![(gr0 i).val, 0, 0] := congrArg (fun n => ![n, 0, 0]) (off_word3 (gr0 i))
theorem k0_off2_eq (i : grid0.Coords) : k0_off2 i = ![(gr0 i).val, 0, 0] := congrArg (fun n => ![n, 0, 0]) (off_word3 (gr0 i))
theorem k1_off1_eq (i : grid1.Coords) : k1_off1 i = ![(gr1 i).val, 0, 0] := congrArg (fun n => ![n, 0, 0]) (off_word3 (gr1 i))
theorem k1_off2_eq (i : grid1.Coords) : k1_off2 i = ![(gr1 i).val, 0, 0] := congrArg (fun n => ![n, 0, 0]) (off_word3 (gr1 i))
theorem k1_off3_eq (i : grid1.Coords) : k1_off3 i = ![1024 * (bd1 i).val, 0] := congrArg (fun n => ![n, 0]) (off_word4 (bd1 i))
theorem k1_off4_eq (i : grid1.Coords) : k1_off4 i = ![1024 * (bd1 i).val, 0] := congrArg (fun n => ![n, 0]) (off_word4 (bd1 i))
theorem k1_off5_eq (i : grid1.Coords) : k1_off5 i = ![1024 * (bd1 i).val, 0] := congrArg (fun n => ![n, 0]) (off_word4 (bd1 i))

theorem cond_word4 (k : Fin 4) : ∀ v : Fin 4, Scalar.cmpi .ne (Scalar.extui (Scalar.cmpi .eq (BitVec.ofNat 32 v.val) (BitVec.ofNat 32 k.val)) : BitVec 32) 0#32 = 1#1 ↔ v = k := by
  revert k; decide

theorem cond_word3 (k : Fin 3) : ∀ v : Fin 3, Scalar.cmpi .ne (Scalar.extui (Scalar.cmpi .eq (BitVec.ofNat 32 v.val) (BitVec.ofNat 32 k.val)) : BitVec 32) 0#32 = 1#1 ↔ v = k := by
  revert k; decide

abbrev bd0 (i : grid0.Coords) : Fin 4 := i 1

theorem k0_cond1_iff (i : grid0.Coords) : k0_cond1 i = 1#1 ↔ bd0 i = 0 := cond_word4 0 (i 1)
theorem k1_cond1_iff (i : grid1.Coords) : k1_cond1 i = 1#1 ↔ bd1 i = 0 := cond_word4 0 (i 1)
theorem k1_cond2_iff (i : grid1.Coords) : k1_cond2 i = 1#1 ↔ gr1 i = 0 := cond_word3 0 (i 0)
theorem k1_cond3_iff (i : grid1.Coords) : k1_cond3 i = 1#1 ↔ gr1 i = 1 := cond_word3 1 (i 0)
theorem k1_cond4_iff (i : grid1.Coords) : k1_cond4 i = 1#1 ↔ gr1 i = 2 := cond_word3 2 (i 0)

/-! ## What the first pipeline's body stores -/

/-- `X W1[m]`, rounded. -/
def val_y1 (x : Vec F S4096x128 .f32) (w1 : Vec F S3x128x64 .f32) (m : Fin 3) : Vec F S4096x64 .bf16 := k0_pay2 x (slab w1 m)

/-- The block of `relu(A[m] (X W1[m]) + b1[m])`. -/
def val_h1 (a : Vec F S1x1024x4096 .f32) (y : Vec F S4096x64 .bf16) (b1 : Vec F S3x1x64 .f32) (m : Fin 3) : Vec F S1x1024x64 .bf16 :=
  k0_pay3 a y (slab b1 m)

/-! ## What the second pipeline's body stores -/

def val_qhi (h : Vec F S1x4096x64 .bf16) (w2 : Vec F S3x64x32 .bf16) (m : Fin 3) : Vec F S4096x32 .i8 := k1_pay6 h (slab w2 m)
def val_qlo (h : Vec F S1x4096x64 .bf16) (w2 : Vec F S3x64x32 .bf16) (m : Fin 3) : Vec F S4096x32 .i8 := k1_pay9 h (slab w2 m)
def val_shi (h : Vec F S1x4096x64 .bf16) (w2 : Vec F S3x64x32 .bf16) (m : Fin 3) : Vec F S1x32 .f32 := k1_pay12 (k1_pay10 h (slab w2 m))
def val_slo (h : Vec F S1x4096x64 .bf16) (w2 : Vec F S3x64x32 .bf16) (m : Fin 3) : Vec F S1x32 .f32 := k1_pay13 (k1_pay8 h (slab w2 m))
def val_cs (h : Vec F S1x4096x64 .bf16) (w2 : Vec F S3x64x32 .bf16) (m : Fin 3) : Vec F S1x32 .f32 := k1_pay14 (k1_pay3 h (slab w2 m))

/-- A band of graph `m`'s embedding, from the codes' band and what the scratch buffers hold. -/
def val_emb (q : Vec F S1x1024x4096 .i8) (qhi qlo : Vec F S4096x32 .i8) (shi slo cs : Vec F S1x32 .f32) (b2 : Vec F S3x1x32 .f32) (m : Fin 3) :
    Vec F S1024x32 .f32 := k1_pay15 q qhi qlo shi slo cs (slab b2 m)

/-- A band of the program's result, from the three graphs' embeddings of the band. -/
def val_out (e2 e0 e1 : Vec F S1024x32 .f32) (a : Vec F S32x1 .f32) (w : Vec F S32x8 .f32) (b : Vec F S1x8 .f32) : Vec F S1024x8 .f32 :=
  k1_pay2 (k1_pay11 e2 e0 e1 a) w b

end Cert.Hand
-- ==== Proof.Loads.lean ====
/-
  What the body's loads read, as parts of the buffers' values: a slab of a stack, a band of a buffer, before and after the stores
  that came before them.
-/
module

public import proofs.«01_k».proof.Proof.Values

@[expose] public section

noncomputable section

namespace Cert.Hand

open Cert.KernelIdeal Cert.KernelIdeal.Gen
open Idealize.ShloMosaic Idealize.ShloMosaic.TcCoe Idealize.ShloMosaic.ValueIdx

variable {F : FTy → Type} [FloatOps F]

/-- Loading one slab of a stack of three. -/
theorem load_slab {a b : Nat} {e : EltTy} {mr : Memref sig .tc .vmem ⟨3, ![3, a, b]⟩ e} (h : mr.IsWhole) (x : Vec F ⟨3, ![3, a, b]⟩ e)
    {off : Fin 3 → ℕ} {m : Fin 3} (ho : off = ![m.val, 0, 0])
    {inb : ∀ k : Fin 3, off k + (![1, a, b] : Fin 3 → ℕ) k ≤ (![3, a, b] : Fin 3 → ℕ) k} :
    View.readAt (Elt F) mr.view (Rect.unit (s := ⟨3, ![3, a, b]⟩) off ![1, a, b] inb).toLoadRect (h.unread x) = slab x m := by
  rw [View.readAt_unit mr.view _ inb ho (slab_inb a b m), h.read_unread]
  exact window_slab x m _

/-- Loading one band of a 4096-row buffer. -/
theorem load_band {e : EltTy} {mr : Memref sig .tc .vmem ⟨2, ![4096, 32]⟩ e} (h : mr.IsWhole) (x : Vec F ⟨2, ![4096, 32]⟩ e)
    {off : Fin 2 → ℕ} {r : Fin 4} (ho : off = ![1024 * r.val, 0])
    {inb : ∀ k : Fin 2, off k + (![1024, 32] : Fin 2 → ℕ) k ≤ (![4096, 32] : Fin 2 → ℕ) k} :
    View.readAt (Elt F) mr.view (Rect.unit (s := ⟨2, ![4096, 32]⟩) off ![1024, 32] inb).toLoadRect (h.unread x) = band x r := by
  rw [View.readAt_unit mr.view _ inb ho (band_inb r), h.read_unread]
  exact window_band x r _

/-- Storing one band of a 4096-row buffer. -/
theorem store_band {e : EltTy} {mr : Memref sig .tc .vmem ⟨2, ![4096, 32]⟩ e} (h : mr.IsWhole) (x : Vec F ⟨2, ![4096, 32]⟩ e)
    {off : Fin 2 → ℕ} {r : Fin 4} (ho : off = ![1024 * r.val, 0])
    {inb : ∀ k : Fin 2, off k + (![1024, 32] : Fin 2 → ℕ) k ≤ (![4096, 32] : Fin 2 → ℕ) k} (w : Vec F ⟨2, ![1024, 32]⟩ e) :
    View.read (Elt F) mr.view (mr.view.writes (Elt F) (h.unread x) [⟨Rect.unit (s := ⟨2, ![4096, 32]⟩) off ![1024, 32] inb, w⟩]) = setBand x r w := by
  rw [View.read_writes_cons_put mr.view _ inb w [] ho, View.writes_nil, h.read_unread]
  rfl

end Cert.Hand
-- ==== Proof.Held2.lean ====
/-
  The second pipeline's fifteen buffers, at given values.
-/
module

public import proofs.«01_k».proof.Proof.Loads
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)

/-- The fifteen buffers of the second body at given values: seven inputs, the output block, seven scratch buffers. -/
def Held2 (arg2 : Memref sig .tc .vmem S1x1024x4096 .i8) (arg3 : Memref sig .tc .vmem S1x4096x64 .bf16) (arg4 : Memref sig .tc .vmem S3x64x32 .bf16) (arg5 : Memref sig .tc .vmem S3x1x32 .f32) (arg6 : Memref sig .tc .vmem S32x1 .f32) (arg7 : Memref sig .tc .vmem S32x8 .f32) (arg8 : Memref sig .tc .vmem S1x8 .f32) (arg9 : Memref sig .tc .vmem S1024x8 .f32) (arg10 : Memref sig .tc .vmem S4096x32 .i8) (arg11 : Memref sig .tc .vmem S4096x32 .i8) (arg12 : Memref sig .tc .vmem S1x32 .f32) (arg13 : Memref sig .tc .vmem S1x32 .f32) (arg14 : Memref sig .tc .vmem S1x32 .f32) (arg15 : Memref sig .tc .vmem S4096x32 .f32) (arg16 : Memref sig .tc .vmem S4096x32 .f32)
    (x0 : Vec F S1x1024x4096 .i8) (x1 : Vec F S1x4096x64 .bf16) (x2 : Vec F S3x64x32 .bf16) (x3 : Vec F S3x1x32 .f32) (x4 : Vec F S32x1 .f32) (x5 : Vec F S32x8 .f32) (x6 : Vec F S1x8 .f32) (o : Vec F S1024x8 .f32) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare o ∗ owns (c : Thread nD τ) arg10 fullShare s0 ∗ owns (c : Thread nD τ) arg11 fullShare s1 ∗ owns (c : Thread nD τ) arg12 fullShare s2 ∗ owns (c : Thread nD τ) arg13 fullShare s3 ∗ owns (c : Thread nD τ) arg14 fullShare s4 ∗ owns (c : Thread nD τ) arg15 fullShare e0 ∗ owns (c : Thread nD τ) arg16 fullShare e1)

/-- The printed cast to the same shape changes nothing. -/
theorem pay1_eq (v : Vec F S1024x32 .f32) : k1_pay1 v = v := shapeCast_self v _

theorem emb_congr {q q' : Vec F S1x1024x4096 .i8} {a a' b b' : Vec F S4096x32 .i8} {s s' t t' u u' : Vec F S1x32 .f32} {v : Vec F S1x1x32 .f32} {b2 : Vec F S3x1x32 .f32} {m : Fin 3}
    (hq : q' = q) (ha : a' = a) (hb : b' = b) (hs : s' = s) (ht : t' = t) (hu : u' = u) (hv : v = slab b2 m) :
    k1_pay15 q' a' b' s' t' u' v = val_emb q a b s t u b2 m := by
  subst hq ha hb hs ht hu hv; rfl

theorem emb_of_pay16 {q q' : Vec F S1x1024x4096 .i8} {a a' b b' : Vec F S4096x32 .i8} {s s' t t' u u' : Vec F S1x32 .f32} {v : Vec F S1x1x32 .f32} {b2 : Vec F S3x1x32 .f32} {m : Fin 3}
    (hq : q' = q) (ha : a' = a) (hb : b' = b) (hs : s' = s) (ht : t' = t) (hu : u' = u) (hv : v = slab b2 m) :
    k1_pay16 q' a' b' s' t' u' v = val_emb q a b s t u b2 m :=
  (shapeCast_self _ _).trans (emb_congr hq ha hb hs ht hu hv)

theorem out_congr {e2 e2' e0 e0' e1 e1' : Vec F S1024x32 .f32} {a a' : Vec F S32x1 .f32} {w w' : Vec F S32x8 .f32} {b b' : Vec F S1x8 .f32}
    (h2 : e2' = e2) (h0 : e0' = e0) (h1 : e1' = e1) (ha : a' = a) (hw : w' = w) (hb : b' = b) :
    k1_pay2 (k1_pay11 e2' e0' e1' a') w' b' = val_out e2 e0 e1 a w b := by
  subst h2 h0 h1 ha hw hb; rfl

end Cert.Hand
-- ==== Proof.Body2A.lean ====
/-
  The second pipeline's body, run, case by case: from the values its buffers hold to the values it leaves.
-/
module

public import proofs.«01_k».proof.Proof.Held2
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)

set_option maxHeartbeats 3200000 in
/-- The first band of graph 0: its embedding goes to the first keeping buffer; the scratch buffers are refilled first. -/
theorem layer2_first0 (i : grid1.Coords) (arg2 : Memref sig .tc .vmem S1x1024x4096 .i8) (harg2 : arg2.IsWhole) (arg3 : Memref sig .tc .vmem S1x4096x64 .bf16) (harg3 : arg3.IsWhole) (arg4 : Memref sig .tc .vmem S3x64x32 .bf16) (harg4 : arg4.IsWhole) (arg5 : Memref sig .tc .vmem S3x1x32 .f32) (harg5 : arg5.IsWhole) (arg6 : Memref sig .tc .vmem S32x1 .f32) (harg6 : arg6.IsWhole) (arg7 : Memref sig .tc .vmem S32x8 .f32) (harg7 : arg7.IsWhole) (arg8 : Memref sig .tc .vmem S1x8 .f32) (harg8 : arg8.IsWhole) (arg9 : Memref sig .tc .vmem S1024x8 .f32) (harg9 : arg9.IsWhole) (arg10 : Memref sig .tc .vmem S4096x32 .i8) (harg10 : arg10.IsWhole) (arg11 : Memref sig .tc .vmem S4096x32 .i8) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S4096x32 .f32) (harg15 : arg15.IsWhole) (arg16 : Memref sig .tc .vmem S4096x32 .f32) (harg16 : arg16.IsWhole)
    (hc0 : k1_cond1 i = 1#1) (hc1 : k1_cond2 i = 1#1) (hc2 : ¬ k1_cond3 i = 1#1) (hc3 : ¬ k1_cond4 i = 1#1)
    (x0 : Vec F S1x1024x4096 .i8) (x1 : Vec F S1x4096x64 .bf16) (x2 : Vec F S3x64x32 .bf16) (x3 : Vec F S3x1x32 .f32) (x4 : Vec F S32x1 .f32) (x5 : Vec F S32x8 .f32) (x6 : Vec F S1x8 .f32) (o : Vec F S1024x8 .f32) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) (E : Set ℕ) (K : PUnit → sProp 𝕄) :
    iprop(Held2 c arg2 arg3 arg4 arg5 arg6 arg7 arg8 arg9 arg10 arg11 arg12 arg13 arg14 arg15 arg16 x0 x1 x2 x3 x4 x5 x6 o s0 s1 s2 s3 s4 e0 e1
        ∗ (Held2 c arg2 arg3 arg4 arg5 arg6 arg7 arg8 arg9 arg10 arg11 arg12 arg13 arg14 arg15 arg16 x0 x1 x2 x3 x4 x5 x6 o (val_qhi x1 x2 (gr1 i)) (val_qlo x1 x2 (gr1 i)) (val_shi x1 x2 (gr1 i)) (val_slo x1 x2 (gr1 i)) (val_cs x1 x2 (gr1 i)) (setBand e0 (bd1 i) (val_emb x0 (val_qhi x1 x2 (gr1 i)) (val_qlo x1 x2 (gr1 i)) (val_shi x1 x2 (gr1 i)) (val_slo x1 x2 (gr1 i)) (val_cs x1 x2 (gr1 i)) x3 (gr1 i))) e1 -∗ K ⟨⟩))
      ⊢ wp frame (wpE (defs₀ (F := F)) Variants.none c none) E (cc1__layer2_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__layer2_body_eq_skeleton]; unfold cc1__layer2_body_skel
  simp only [k1_part3_eq_skeleton, k1_part1_eq_skeleton, k1_part2_eq_skeleton]
  unfold Held2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    unfold layer2_first0.sl.H8_1
    refine (View.read_writes_full _ _ _ _ _).trans ?_
    exact (congrArg₂ k1_pay6 ((View.readAt_full _ _ _).trans (harg3.read_unread _)) (load_slab harg4 x2 (k1_off1_eq i)))
  isplitl [H9]
  · iexists _; isplitr; swap; · iexact H9
    ipureintro
    unfold layer2_first0.sl.H9_1
    refine (View.read_writes_full _ _ _ _ _).trans ?_
    exact (congrArg₂ k1_pay9 ((View.readAt_full _ _ _).trans (harg3.read_unread _)) (load_slab harg4 x2 (k1_off1_eq i)))
  isplitl [H10]
  · iexists _; isplitr; swap; · iexact H10
    ipureintro
    unfold layer2_first0.sl.H10_1
    refine (View.read_writes_full _ _ _ _ _).trans ?_
    exact (congrArg k1_pay12 (congrArg₂ k1_pay10 ((View.readAt_full _ _ _).trans (harg3.read_unread _)) (load_slab harg4 x2 (k1_off1_eq i))))
  isplitl [H11]
  · iexists _; isplitr; swap; · iexact H11
    ipureintro
    unfold layer2_first0.sl.H11_1
    refine (View.read_writes_full _ _ _ _ _).trans ?_
    exact (congrArg k1_pay13 (congrArg₂ k1_pay8 ((View.readAt_full _ _ _).trans (harg3.read_unread _)) (load_slab harg4 x2 (k1_off1_eq i))))
  isplitl [H12]
  · iexists _; isplitr; swap; · iexact H12
    ipureintro
    unfold layer2_first0.sl.H12_1
    refine (View.read_writes_full _ _ _ _ _).trans ?_
    exact (congrArg k1_pay14 (congrArg₂ k1_pay3 ((View.readAt_full _ _ _).trans (harg3.read_unread _)) (load_slab harg4 x2 (k1_off1_eq i))))
  isplitl [H13]
  · iexists _; isplitr; swap; · iexact H13
    ipureintro
    refine (store_band harg15 e0 (k1_off3_eq i) _).trans ?_
    refine congrArg (setBand _ (bd1 i)) ?_
    exact emb_of_pay16 ((View.readAt_full _ _ _).trans (harg2.read_unread _)) ((View.readCov_full _ _ _ _ _).trans (congrArg₂ k1_pay6 ((View.readAt_full _ _ _).trans (harg3.read_unread _)) (load_slab harg4 x2 (k1_off1_eq i)))) ((View.readCov_full _ _ _ _ _).trans (congrArg₂ k1_pay9 ((View.readAt_full _ _ _).trans (harg3.read_unread _)) (load_slab harg4 x2 (k1_off1_eq i)))) ((View.readCov_full _ _ _ _ _).trans (congrArg k1_pay12 (congrArg₂ k1_pay10 ((View.readAt_full _ _ _).trans (harg3.read_unread _)) (load_slab harg4 x2 (k1_off1_eq i))))) ((View.readCov_full _ _ _ _ _).trans (congrArg k1_pay13 (congrArg₂ k1_pay8 ((View.readAt_full _ _ _).trans (harg3.read_unread _)) (load_slab harg4 x2 (k1_off1_eq i))))) ((View.readCov_full _ _ _ _ _).trans (congrArg k1_pay14 (congrArg₂ k1_pay3 ((View.readAt_full _ _ _).trans (harg3.read_unread _)) (load_slab harg4 x2 (k1_off1_eq i))))) (load_slab harg5 x3 (k1_off2_eq i))
  iexists _; isplitr; · ipureintro; exact harg16.read_unread _
  iexact H14

end Cert.Hand
-- ==== Proof.Body2B.lean ====
/-
  The second pipeline's body, run, case by case: from the values its buffers hold to the values it leaves.
-/
module

public import proofs.«01_k».proof.Proof.Held2
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)

set_option maxHeartbeats 3200000 in
/-- The first band of graph 1: its embedding goes to the second keeping buffer; the scratch buffers are refilled first. -/
theorem layer2_first1 (i : grid1.Coords) (arg2 : Memref sig .tc .vmem S1x1024x4096 .i8) (harg2 : arg2.IsWhole) (arg3 : Memref sig .tc .vmem S1x4096x64 .bf16) (harg3 : arg3.IsWhole) (arg4 : Memref sig .tc .vmem S3x64x32 .bf16) (harg4 : arg4.IsWhole) (arg5 : Memref sig .tc .vmem S3x1x32 .f32) (harg5 : arg5.IsWhole) (arg6 : Memref sig .tc .vmem S32x1 .f32) (harg6 : arg6.IsWhole) (arg7 : Memref sig .tc .vmem S32x8 .f32) (harg7 : arg7.IsWhole) (arg8 : Memref sig .tc .vmem S1x8 .f32) (harg8 : arg8.IsWhole) (arg9 : Memref sig .tc .vmem S1024x8 .f32) (harg9 : arg9.IsWhole) (arg10 : Memref sig .tc .vmem S4096x32 .i8) (harg10 : arg10.IsWhole) (arg11 : Memref sig .tc .vmem S4096x32 .i8) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S4096x32 .f32) (harg15 : arg15.IsWhole) (arg16 : Memref sig .tc .vmem S4096x32 .f32) (harg16 : arg16.IsWhole)
    (hc0 : k1_cond1 i = 1#1) (hc1 : ¬ k1_cond2 i = 1#1) (hc2 : k1_cond3 i = 1#1) (hc3 : ¬ k1_cond4 i = 1#1)
    (x0 : Vec F S1x1024x4096 .i8) (x1 : Vec F S1x4096x64 .bf16) (x2 : Vec F S3x64x32 .bf16) (x3 : Vec F S3x1x32 .f32) (x4 : Vec F S32x1 .f32) (x5 : Vec F S32x8 .f32) (x6 : Vec F S1x8 .f32) (o : Vec F S1024x8 .f32) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) (E : Set ℕ) (K : PUnit → sProp 𝕄) :
    iprop(Held2 c arg2 arg3 arg4 arg5 arg6 arg7 arg8 arg9 arg10 arg11 arg12 arg13 arg14 arg15 arg16 x0 x1 x2 x3 x4 x5 x6 o s0 s1 s2 s3 s4 e0 e1
        ∗ (Held2 c arg2 arg3 arg4 arg5 arg6 arg7 arg8 arg9 arg10 arg11 arg12 arg13 arg14 arg15 arg16 x0 x1 x2 x3 x4 x5 x6 o (val_qhi x1 x2 (gr1 i)) (val_qlo x1 x2 (gr1 i)) (val_shi x1 x2 (gr1 i)) (val_slo x1 x2 (gr1 i)) (val_cs x1 x2 (gr1 i)) e0 (setBand e1 (bd1 i) (val_emb x0 (val_qhi x1 x2 (gr1 i)) (val_qlo x1 x2 (gr1 i)) (val_shi x1 x2 (gr1 i)) (val_slo x1 x2 (gr1 i)) (val_cs x1 x2 (gr1 i)) x3 (gr1 i))) -∗ K ⟨⟩))
      ⊢ wp frame (wpE (defs₀ (F := F)) Variants.none c none) E (cc1__layer2_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__layer2_body_eq_skeleton]; unfold cc1__layer2_body_skel
  simp only [k1_part3_eq_skeleton, k1_part1_eq_skeleton, k1_part2_eq_skeleton]
  unfold Held2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro
    unfold layer2_first1.sl.H8_1
    refine (View.read_writes_full _ _ _ _ _).trans ?_
    exact (congrArg₂ k1_pay6 ((View.readAt_full _ _ _).trans (harg3.read_unread _)) (load_slab harg4 x2 (k1_off1_eq i)))
  isplitl [H9]
  · iexists _; isplitr; swap; · iexact H9
    ipureintro
    unfold layer2_first1.sl.H9_1
    refine (View.read_writes_full _ _ _ _ _).trans ?_
    exact (congrArg₂ k1_pay9 ((View.readAt_full _ _ _).trans (harg3.read_unread _)) (load_slab harg4 x2 (k1_off1_eq i)))
  isplitl [H10]
  · iexists _; isplitr; swap; · iexact H10
    ipureintro
    unfold layer2_first1.sl.H10_1
    refine (View.read_writes_full _ _ _ _ _).trans ?_
    exact (congrArg k1_pay12 (congrArg₂ k1_pay10 ((View.readAt_full _ _ _).trans (harg3.read_unread _)) (load_slab harg4 x2 (k1_off1_eq i))))
  isplitl [H11]
  · iexists _; isplitr; swap; · iexact H11
    ipureintro
    unfold layer2_first1.sl.H11_1
    refine (View.read_writes_full _ _ _ _ _).trans ?_
    exact (congrArg k1_pay13 (congrArg₂ k1_pay8 ((View.readAt_full _ _ _).trans (harg3.read_unread _)) (load_slab harg4 x2 (k1_off1_eq i))))
  isplitl [H12]
  · iexists _; isplitr; swap; · iexact H12
    ipureintro
    unfold layer2_first1.sl.H12_1
    refine (View.read_writes_full _ _ _ _ _).trans ?_
    exact (congrArg k1_pay14 (congrArg₂ k1_pay3 ((View.readAt_full _ _ _).trans (harg3.read_unread _)) (load_slab harg4 x2 (k1_off1_eq i))))
  isplitl [H13]
  · iexists _; isplitr; · ipureintro; exact harg15.read_unread _
    iexact H13
  iexists _; isplitr; swap; · iexact H14
  ipureintro
  refine (store_band harg16 e1 (k1_off4_eq i) _).trans ?_
  refine congrArg (setBand _ (bd1 i)) ?_
  exact (pay1_eq _).trans (emb_congr ((View.readAt_full _ _ _).trans (harg2.read_unread _)) ((View.readCov_full _ _ _ _ _).trans (congrArg₂ k1_pay6 ((View.readAt_full _ _ _).trans (harg3.read_unread _)) (load_slab harg4 x2 (k1_off1_eq i)))) ((View.readCov_full _ _ _ _ _).trans (congrArg₂ k1_pay9 ((View.readAt_full _ _ _).trans (harg3.read_unread _)) (load_slab harg4 x2 (k1_off1_eq i)))) ((View.readCov_full _ _ _ _ _).trans (congrArg k1_pay12 (congrArg₂ k1_pay10 ((View.readAt_full _ _ _).trans (harg3.read_unread _)) (load_slab harg4 x2 (k1_off1_eq i))))) ((View.readCov_full _ _ _ _ _).trans (congrArg k1_pay13 (congrArg₂ k1_pay8 ((View.readAt_full _ _ _).trans (harg3.read_unread _)) (load_slab harg4 x2 (k1_off1_eq i))))) ((View.readCov_full _ _ _ _ _).trans (congrArg k1_pay14 (congrArg₂ k1_pay3 ((View.readAt_full _ _ _).trans (harg3.read_unread _)) (load_slab harg4 x2 (k1_off1_eq i))))) (load_slab harg5 x3 (k1_off2_eq i)))

end Cert.Hand
-- ==== Proof.Body2C.lean ====
/-
  The second pipeline's body, run, case by case: from the values its buffers hold to the values it leaves.
-/
module

public import proofs.«01_k».proof.Proof.Held2
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)

set_option maxHeartbeats 3200000 in
/-- The first band of graph 2: with the two kept bands it gives the output block; the scratch buffers are refilled first. -/
theorem layer2_first2 (i : grid1.Coords) (arg2 : Memref sig .tc .vmem S1x1024x4096 .i8) (harg2 : arg2.IsWhole) (arg3 : Memref sig .tc .vmem S1x4096x64 .bf16) (harg3 : arg3.IsWhole) (arg4 : Memref sig .tc .vmem S3x64x32 .bf16) (harg4 : arg4.IsWhole) (arg5 : Memref sig .tc .vmem S3x1x32 .f32) (harg5 : arg5.IsWhole) (arg6 : Memref sig .tc .vmem S32x1 .f32) (harg6 : arg6.IsWhole) (arg7 : Memref sig .tc .vmem S32x8 .f32) (harg7 : arg7.IsWhole) (arg8 : Memref sig .tc .vmem S1x8 .f32) (harg8 : arg8.IsWhole) (arg9 : Memref sig .tc .vmem S1024x8 .f32) (harg9 : arg9.IsWhole) (arg10 : Memref sig .tc .vmem S4096x32 .i8) (harg10 : arg10.IsWhole) (arg11 : Memref sig .tc .vmem S4096x32 .i8) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S4096x32 .f32) (harg15 : arg15.IsWhole) (arg16 : Memref sig .tc .vmem S4096x32 .f32) (harg16 : arg16.IsWhole)
    (hc0 : k1_cond1 i = 1#1) (hc1 : ¬ k1_cond2 i = 1#1) (hc2 : ¬ k1_cond3 i = 1#1) (hc3 : k1_cond4 i = 1#1)
    (x0 : Vec F S1x1024x4096 .i8) (x1 : Vec F S1x4096x64 .bf16) (x2 : Vec F S3x64x32 .bf16) (x3 : Vec F S3x1x32 .f32) (x4 : Vec F S32x1 .f32) (x5 : Vec F S32x8 .f32) (x6 : Vec F S1x8 .f32) (o : Vec F S1024x8 .f32) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) (E : Set ℕ) (K : PUnit → sProp 𝕄) :
    iprop(Held2 c arg2 arg3 arg4 arg5 arg6 arg7 arg8 arg9 arg10 arg11 arg12 arg13 arg14 arg15 arg16 x0 x1 x2 x3 x4 x5 x6 o s0 s1 s2 s3 s4 e0 e1
        ∗ (Held2 c arg2 arg3 arg4 arg5 arg6 arg7 arg8 arg9 arg10 arg11 arg12 arg13 arg14 arg15 arg16 x0 x1 x2 x3 x4 x5 x6 (val_out (val_emb x0 (val_qhi x1 x2 (gr1 i)) (val_qlo x1 x2 (gr1 i)) (val_shi x1 x2 (gr1 i)) (val_slo x1 x2 (gr1 i)) (val_cs x1 x2 (gr1 i)) x3 (gr1 i)) (band e0 (bd1 i)) (band e1 (bd1 i)) x4 x5 x6) (val_qhi x1 x2 (gr1 i)) (val_qlo x1 x2 (gr1 i)) (val_shi x1 x2 (gr1 i)) (val_slo x1 x2 (gr1 i)) (val_cs x1 x2 (gr1 i)) e0 e1 -∗ K ⟨⟩))
      ⊢ wp frame (wpE (defs₀ (F := F)) Variants.none c none) E (cc1__layer2_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__layer2_body_eq_skeleton]; unfold cc1__layer2_body_skel
  simp only [k1_part3_eq_skeleton, k1_part1_eq_skeleton, k1_part2_eq_skeleton]
  unfold Held2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full _ _ _ _ _).trans ?_
    exact out_congr (emb_congr ((View.readAt_full _ _ _).trans (harg2.read_unread _)) ((View.readCov_full _ _ _ _ _).trans (congrArg₂ k1_pay6 ((View.readAt_full _ _ _).trans (harg3.read_unread _)) (load_slab harg4 x2 (k1_off1_eq i)))) ((View.readCov_full _ _ _ _ _).trans (congrArg₂ k1_pay9 ((View.readAt_full _ _ _).trans (harg3.read_unread _)) (load_slab harg4 x2 (k1_off1_eq i)))) ((View.readCov_full _ _ _ _ _).trans (congrArg k1_pay12 (congrArg₂ k1_pay10 ((View.readAt_full _ _ _).trans (harg3.read_unread _)) (load_slab harg4 x2 (k1_off1_eq i))))) ((View.readCov_full _ _ _ _ _).trans (congrArg k1_pay13 (congrArg₂ k1_pay8 ((View.readAt_full _ _ _).trans (harg3.read_unread _)) (load_slab harg4 x2 (k1_off1_eq i))))) ((View.readCov_full _ _ _ _ _).trans (congrArg k1_pay14 (congrArg₂ k1_pay3 ((View.readAt_full _ _ _).trans (harg3.read_unread _)) (load_slab harg4 x2 (k1_off1_eq i))))) (load_slab harg5 x3 (k1_off2_eq i))) (load_band harg15 e0 (k1_off5_eq i)) (load_band harg16 e1 (k1_off5_eq i)) ((View.readAt_full _ _ _).trans (harg6.read_unread _)) ((View.readAt_full _ _ _).trans (harg7.read_unread _)) ((View.readAt_full _ _ _).trans (harg8.read_unread _))
  isplitl [H8]
  · iexists _; isplitr; swap; · iexact H8
    ipureintro
    unfold layer2_first2.sl.H8_1
    refine (View.read_writes_full _ _ _ _ _).trans ?_
    exact (congrArg₂ k1_pay6 ((View.readAt_full _ _ _).trans (harg3.read_unread _)) (load_slab harg4 x2 (k1_off1_eq i)))
  isplitl [H9]
  · iexists _; isplitr; swap; · iexact H9
    ipureintro
    unfold layer2_first2.sl.H9_1
    refine (View.read_writes_full _ _ _ _ _).trans ?_
    exact (congrArg₂ k1_pay9 ((View.readAt_full _ _ _).trans (harg3.read_unread _)) (load_slab harg4 x2 (k1_off1_eq i)))
  isplitl [H10]
  · iexists _; isplitr; swap; · iexact H10
    ipureintro
    unfold layer2_first2.sl.H10_1
    refine (View.read_writes_full _ _ _ _ _).trans ?_
    exact (congrArg k1_pay12 (congrArg₂ k1_pay10 ((View.readAt_full _ _ _).trans (harg3.read_unread _)) (load_slab harg4 x2 (k1_off1_eq i))))
  isplitl [H11]
  · iexists _; isplitr; swap; · iexact H11
    ipureintro
    unfold layer2_first2.sl.H11_1
    refine (View.read_writes_full _ _ _ _ _).trans ?_
    exact (congrArg k1_pay13 (congrArg₂ k1_pay8 ((View.readAt_full _ _ _).trans (harg3.read_unread _)) (load_slab harg4 x2 (k1_off1_eq i))))
  isplitl [H12]
  · iexists _; isplitr; swap; · iexact H12
    ipureintro
    unfold layer2_first2.sl.H12_1
    refine (View.read_writes_full _ _ _ _ _).trans ?_
    exact (congrArg k1_pay14 (congrArg₂ k1_pay3 ((View.readAt_full _ _ _).trans (harg3.read_unread _)) (load_slab harg4 x2 (k1_off1_eq i))))
  isplitl [H13]
  · iexists _; isplitr; · ipureintro; exact harg15.read_unread _
    iexact H13
  iexists _; isplitr; · ipureintro; exact harg16.read_unread _
  iexact H14

end Cert.Hand
-- ==== Proof.Body2D.lean ====
/-
  The second pipeline's body, run, case by case: from the values its buffers hold to the values it leaves.
-/
module

public import proofs.«01_k».proof.Proof.Held2
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)

set_option maxHeartbeats 3200000 in
/-- A later band of graph 0: its embedding goes to the first keeping buffer. -/
theorem layer2_next0 (i : grid1.Coords) (arg2 : Memref sig .tc .vmem S1x1024x4096 .i8) (harg2 : arg2.IsWhole) (arg3 : Memref sig .tc .vmem S1x4096x64 .bf16) (harg3 : arg3.IsWhole) (arg4 : Memref sig .tc .vmem S3x64x32 .bf16) (harg4 : arg4.IsWhole) (arg5 : Memref sig .tc .vmem S3x1x32 .f32) (harg5 : arg5.IsWhole) (arg6 : Memref sig .tc .vmem S32x1 .f32) (harg6 : arg6.IsWhole) (arg7 : Memref sig .tc .vmem S32x8 .f32) (harg7 : arg7.IsWhole) (arg8 : Memref sig .tc .vmem S1x8 .f32) (harg8 : arg8.IsWhole) (arg9 : Memref sig .tc .vmem S1024x8 .f32) (harg9 : arg9.IsWhole) (arg10 : Memref sig .tc .vmem S4096x32 .i8) (harg10 : arg10.IsWhole) (arg11 : Memref sig .tc .vmem S4096x32 .i8) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S4096x32 .f32) (harg15 : arg15.IsWhole) (arg16 : Memref sig .tc .vmem S4096x32 .f32) (harg16 : arg16.IsWhole)
    (hc0 : ¬ k1_cond1 i = 1#1) (hc1 : k1_cond2 i = 1#1) (hc2 : ¬ k1_cond3 i = 1#1) (hc3 : ¬ k1_cond4 i = 1#1)
    (x0 : Vec F S1x1024x4096 .i8) (x1 : Vec F S1x4096x64 .bf16) (x2 : Vec F S3x64x32 .bf16) (x3 : Vec F S3x1x32 .f32) (x4 : Vec F S32x1 .f32) (x5 : Vec F S32x8 .f32) (x6 : Vec F S1x8 .f32) (o : Vec F S1024x8 .f32) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) (E : Set ℕ) (K : PUnit → sProp 𝕄) :
    iprop(Held2 c arg2 arg3 arg4 arg5 arg6 arg7 arg8 arg9 arg10 arg11 arg12 arg13 arg14 arg15 arg16 x0 x1 x2 x3 x4 x5 x6 o s0 s1 s2 s3 s4 e0 e1
        ∗ (Held2 c arg2 arg3 arg4 arg5 arg6 arg7 arg8 arg9 arg10 arg11 arg12 arg13 arg14 arg15 arg16 x0 x1 x2 x3 x4 x5 x6 o s0 s1 s2 s3 s4 (setBand e0 (bd1 i) (val_emb x0 s0 s1 s2 s3 s4 x3 (gr1 i))) e1 -∗ K ⟨⟩))
      ⊢ wp frame (wpE (defs₀ (F := F)) Variants.none c none) E (cc1__layer2_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__layer2_body_eq_skeleton]; unfold cc1__layer2_body_skel
  simp only [k1_part3_eq_skeleton, k1_part1_eq_skeleton, k1_part2_eq_skeleton]
  unfold Held2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; swap; · iexact H13
    ipureintro
    refine (store_band harg15 e0 (k1_off3_eq i) _).trans ?_
    refine congrArg (setBand _ (bd1 i)) ?_
    exact emb_of_pay16 ((View.readAt_full _ _ _).trans (harg2.read_unread _)) ((View.readAt_full _ _ _).trans (harg10.read_unread _)) ((View.readAt_full _ _ _).trans (harg11.read_unread _)) ((View.readAt_full _ _ _).trans (harg12.read_unread _)) ((View.readAt_full _ _ _).trans (harg13.read_unread _)) ((View.readAt_full _ _ _).trans (harg14.read_unread _)) (load_slab harg5 x3 (k1_off2_eq i))
  iexists _; isplitr; · ipureintro; exact harg16.read_unread _
  iexact H14

set_option maxHeartbeats 3200000 in
/-- A later band of graph 1: its embedding goes to the second keeping buffer. -/
theorem layer2_next1 (i : grid1.Coords) (arg2 : Memref sig .tc .vmem S1x1024x4096 .i8) (harg2 : arg2.IsWhole) (arg3 : Memref sig .tc .vmem S1x4096x64 .bf16) (harg3 : arg3.IsWhole) (arg4 : Memref sig .tc .vmem S3x64x32 .bf16) (harg4 : arg4.IsWhole) (arg5 : Memref sig .tc .vmem S3x1x32 .f32) (harg5 : arg5.IsWhole) (arg6 : Memref sig .tc .vmem S32x1 .f32) (harg6 : arg6.IsWhole) (arg7 : Memref sig .tc .vmem S32x8 .f32) (harg7 : arg7.IsWhole) (arg8 : Memref sig .tc .vmem S1x8 .f32) (harg8 : arg8.IsWhole) (arg9 : Memref sig .tc .vmem S1024x8 .f32) (harg9 : arg9.IsWhole) (arg10 : Memref sig .tc .vmem S4096x32 .i8) (harg10 : arg10.IsWhole) (arg11 : Memref sig .tc .vmem S4096x32 .i8) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S4096x32 .f32) (harg15 : arg15.IsWhole) (arg16 : Memref sig .tc .vmem S4096x32 .f32) (harg16 : arg16.IsWhole)
    (hc0 : ¬ k1_cond1 i = 1#1) (hc1 : ¬ k1_cond2 i = 1#1) (hc2 : k1_cond3 i = 1#1) (hc3 : ¬ k1_cond4 i = 1#1)
    (x0 : Vec F S1x1024x4096 .i8) (x1 : Vec F S1x4096x64 .bf16) (x2 : Vec F S3x64x32 .bf16) (x3 : Vec F S3x1x32 .f32) (x4 : Vec F S32x1 .f32) (x5 : Vec F S32x8 .f32) (x6 : Vec F S1x8 .f32) (o : Vec F S1024x8 .f32) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) (E : Set ℕ) (K : PUnit → sProp 𝕄) :
    iprop(Held2 c arg2 arg3 arg4 arg5 arg6 arg7 arg8 arg9 arg10 arg11 arg12 arg13 arg14 arg15 arg16 x0 x1 x2 x3 x4 x5 x6 o s0 s1 s2 s3 s4 e0 e1
        ∗ (Held2 c arg2 arg3 arg4 arg5 arg6 arg7 arg8 arg9 arg10 arg11 arg12 arg13 arg14 arg15 arg16 x0 x1 x2 x3 x4 x5 x6 o s0 s1 s2 s3 s4 e0 (setBand e1 (bd1 i) (val_emb x0 s0 s1 s2 s3 s4 x3 (gr1 i))) -∗ K ⟨⟩))
      ⊢ wp frame (wpE (defs₀ (F := F)) Variants.none c none) E (cc1__layer2_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__layer2_body_eq_skeleton]; unfold cc1__layer2_body_skel
  simp only [k1_part3_eq_skeleton, k1_part1_eq_skeleton, k1_part2_eq_skeleton]
  unfold Held2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  iexists _; isplitr; swap; · iexact H14
  ipureintro
  refine (store_band harg16 e1 (k1_off4_eq i) _).trans ?_
  refine congrArg (setBand _ (bd1 i)) ?_
  exact (pay1_eq _).trans (emb_congr ((View.readAt_full _ _ _).trans (harg2.read_unread _)) ((View.readAt_full _ _ _).trans (harg10.read_unread _)) ((View.readAt_full _ _ _).trans (harg11.read_unread _)) ((View.readAt_full _ _ _).trans (harg12.read_unread _)) ((View.readAt_full _ _ _).trans (harg13.read_unread _)) ((View.readAt_full _ _ _).trans (harg14.read_unread _)) (load_slab harg5 x3 (k1_off2_eq i)))

set_option maxHeartbeats 3200000 in
/-- A later band of graph 2: with the two kept bands it gives the output block. -/
theorem layer2_next2 (i : grid1.Coords) (arg2 : Memref sig .tc .vmem S1x1024x4096 .i8) (harg2 : arg2.IsWhole) (arg3 : Memref sig .tc .vmem S1x4096x64 .bf16) (harg3 : arg3.IsWhole) (arg4 : Memref sig .tc .vmem S3x64x32 .bf16) (harg4 : arg4.IsWhole) (arg5 : Memref sig .tc .vmem S3x1x32 .f32) (harg5 : arg5.IsWhole) (arg6 : Memref sig .tc .vmem S32x1 .f32) (harg6 : arg6.IsWhole) (arg7 : Memref sig .tc .vmem S32x8 .f32) (harg7 : arg7.IsWhole) (arg8 : Memref sig .tc .vmem S1x8 .f32) (harg8 : arg8.IsWhole) (arg9 : Memref sig .tc .vmem S1024x8 .f32) (harg9 : arg9.IsWhole) (arg10 : Memref sig .tc .vmem S4096x32 .i8) (harg10 : arg10.IsWhole) (arg11 : Memref sig .tc .vmem S4096x32 .i8) (harg11 : arg11.IsWhole) (arg12 : Memref sig .tc .vmem S1x32 .f32) (harg12 : arg12.IsWhole) (arg13 : Memref sig .tc .vmem S1x32 .f32) (harg13 : arg13.IsWhole) (arg14 : Memref sig .tc .vmem S1x32 .f32) (harg14 : arg14.IsWhole) (arg15 : Memref sig .tc .vmem S4096x32 .f32) (harg15 : arg15.IsWhole) (arg16 : Memref sig .tc .vmem S4096x32 .f32) (harg16 : arg16.IsWhole)
    (hc0 : ¬ k1_cond1 i = 1#1) (hc1 : ¬ k1_cond2 i = 1#1) (hc2 : ¬ k1_cond3 i = 1#1) (hc3 : k1_cond4 i = 1#1)
    (x0 : Vec F S1x1024x4096 .i8) (x1 : Vec F S1x4096x64 .bf16) (x2 : Vec F S3x64x32 .bf16) (x3 : Vec F S3x1x32 .f32) (x4 : Vec F S32x1 .f32) (x5 : Vec F S32x8 .f32) (x6 : Vec F S1x8 .f32) (o : Vec F S1024x8 .f32) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) (E : Set ℕ) (K : PUnit → sProp 𝕄) :
    iprop(Held2 c arg2 arg3 arg4 arg5 arg6 arg7 arg8 arg9 arg10 arg11 arg12 arg13 arg14 arg15 arg16 x0 x1 x2 x3 x4 x5 x6 o s0 s1 s2 s3 s4 e0 e1
        ∗ (Held2 c arg2 arg3 arg4 arg5 arg6 arg7 arg8 arg9 arg10 arg11 arg12 arg13 arg14 arg15 arg16 x0 x1 x2 x3 x4 x5 x6 (val_out (val_emb x0 s0 s1 s2 s3 s4 x3 (gr1 i)) (band e0 (bd1 i)) (band e1 (bd1 i)) x4 x5 x6) s0 s1 s2 s3 s4 e0 e1 -∗ K ⟨⟩))
      ⊢ wp frame (wpE (defs₀ (F := F)) Variants.none c none) E (cc1__layer2_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1__layer2_body_eq_skeleton]; unfold cc1__layer2_body_skel
  simp only [k1_part3_eq_skeleton, k1_part1_eq_skeleton, k1_part2_eq_skeleton]
  unfold Held2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro
    refine (View.read_writes_full _ _ _ _ _).trans ?_
    exact out_congr (emb_congr ((View.readAt_full _ _ _).trans (harg2.read_unread _)) ((View.readAt_full _ _ _).trans (harg10.read_unread _)) ((View.readAt_full _ _ _).trans (harg11.read_unread _)) ((View.readAt_full _ _ _).trans (harg12.read_unread _)) ((View.readAt_full _ _ _).trans (harg13.read_unread _)) ((View.readAt_full _ _ _).trans (harg14.read_unread _)) (load_slab harg5 x3 (k1_off2_eq i))) (load_band harg15 e0 (k1_off5_eq i)) (load_band harg16 e1 (k1_off5_eq i)) ((View.readAt_full _ _ _).trans (harg6.read_unread _)) ((View.readAt_full _ _ _).trans (harg7.read_unread _)) ((View.readAt_full _ _ _).trans (harg8.read_unread _))
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  iexists _; isplitr; · ipureintro; exact harg16.read_unread _
  iexact H14

end Cert.Hand
-- ==== Proof.Point1.lean ====
/-
  The second pipeline's data: what its buffers hold at each point, and what each point does to them.
-/
module

public import proofs.«01_k».proof.Proof.Body2A
public import proofs.«01_k».proof.Proof.Body2B
public import proofs.«01_k».proof.Proof.Body2C
public import proofs.«01_k».proof.Proof.Body2D
public import proofs.«01_k».proof.Proof.Gen.KernelIdeal.Regions
public import Idealize.ShloMosaic.Lib.Pipeline.DatRel
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F]

local notation "𝕄" => MT nD τ sig Unit (Elt F) ℕ (UR sig nD τ) ℕ

variable (W : Dev nD → Valuation τ sig (Elt F)) (c : Dev nD)

/-! ## The points -/

theorem gr1_coords (t : Fin cfg1.N) : gr1 (grid1.coords t) = ⟨t.val / 4, by have : t.val < 12 := lt_of_lt_of_eq t.isLt N_1; omega⟩ :=
  Fin.ext (by
    have ht : t.val < 12 := lt_of_lt_of_eq t.isLt N_1
    have e : (grid1.coords t 0).val = t.val / 4 % 3 := Pipeline.Grid.coords_val t 0 (by decide) rfl
    show (grid1.coords t 0).val = t.val / 4
    omega)

theorem bd1_coords (t : Fin cfg1.N) : bd1 (grid1.coords t) = ⟨t.val % 4, by omega⟩ :=
  Fin.ext (by
    have e : (grid1.coords t 1).val = t.val / 1 % 4 := Pipeline.Grid.coords_val t 1 (by decide) rfl
    show (grid1.coords t 1).val = t.val % 4
    omega)

/-- The first point of `t`'s graph. -/
def rep1 (t : Fin cfg1.N) : Fin cfg1.N := ⟨4 * (t.val / 4), by have := t.isLt; omega⟩

/-- The point `k` points before `t`. -/
def back1 (k : ℕ) (t : Fin cfg1.N) : Fin cfg1.N := ⟨t.val - k, by have := t.isLt; omega⟩

theorem rep1_first {t : Fin cfg1.N} (h : t.val % 4 = 0) : rep1 t = t := Fin.ext (by show 4 * (t.val / 4) = t.val; omega)

theorem rep1_next {u t : Fin cfg1.N} (hu : u.val + 1 = t.val) (h : ¬ t.val % 4 = 0) : rep1 u = rep1 t :=
  Fin.ext (by show 4 * (u.val / 4) = 4 * (t.val / 4); omega)

theorem bd1_back (k : ℕ) (t : Fin cfg1.N) (h : 4 * k ≤ t.val) : bd1 (grid1.coords (back1 (4 * k) t)) = bd1 (grid1.coords t) := by
  rw [bd1_coords, bd1_coords]; exact Fin.ext (by show (t.val - 4 * k) % 4 = t.val % 4; omega)

/-! ## The blocks and what the points leave -/

/-- Window `w`'s block at point `t`, of the arrays as the pipeline finds them. -/
def blk1 (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

def in1_q (t : Fin cfg1.N) : Vec F S1x1024x4096 .i8 := blk1 W c 0 t
def in1_h (t : Fin cfg1.N) : Vec F S1x4096x64 .bf16 := blk1 W c 1 t
def in1_w2 (t : Fin cfg1.N) : Vec F S3x64x32 .bf16 := blk1 W c 2 t
def in1_b2 (t : Fin cfg1.N) : Vec F S3x1x32 .f32 := blk1 W c 3 t
def in1_a (t : Fin cfg1.N) : Vec F S32x1 .f32 := blk1 W c 4 t
def in1_wl (t : Fin cfg1.N) : Vec F S32x8 .f32 := blk1 W c 5 t
def in1_bl (t : Fin cfg1.N) : Vec F S1x8 .f32 := blk1 W c 6 t

/-! What the first five scratch buffers hold during `t`'s graph. -/

def qhiAt (t : Fin cfg1.N) : Vec F S4096x32 .i8 := val_qhi (in1_h W c (rep1 t)) (in1_w2 W c (rep1 t)) (gr1 (grid1.coords (rep1 t)))
def qloAt (t : Fin cfg1.N) : Vec F S4096x32 .i8 := val_qlo (in1_h W c (rep1 t)) (in1_w2 W c (rep1 t)) (gr1 (grid1.coords (rep1 t)))
def shiAt (t : Fin cfg1.N) : Vec F S1x32 .f32 := val_shi (in1_h W c (rep1 t)) (in1_w2 W c (rep1 t)) (gr1 (grid1.coords (rep1 t)))
def sloAt (t : Fin cfg1.N) : Vec F S1x32 .f32 := val_slo (in1_h W c (rep1 t)) (in1_w2 W c (rep1 t)) (gr1 (grid1.coords (rep1 t)))
def csAt (t : Fin cfg1.N) : Vec F S1x32 .f32 := val_cs (in1_h W c (rep1 t)) (in1_w2 W c (rep1 t)) (gr1 (grid1.coords (rep1 t)))

/-- The band of its graph's embedding that point `t` computes. -/
def embAt (t : Fin cfg1.N) : Vec F S1024x32 .f32 := val_emb (in1_q W c t) (qhiAt W c t) (qloAt W c t) (shiAt W c t) (sloAt W c t) (csAt W c t) (in1_b2 W c t) (gr1 (grid1.coords t))

/-- The block of the result a point of the last graph leaves. -/
def outAt (t : Fin cfg1.N) : Vec F S1024x8 .f32 :=
  val_out (embAt W c t) (embAt W c (back1 8 t)) (embAt W c (back1 4 t)) (in1_a W c t) (in1_wl W c t) (in1_bl W c t)

theorem qhiAt_first {t : Fin cfg1.N} (h : t.val % 4 = 0) : qhiAt W c t = val_qhi (in1_h W c t) (in1_w2 W c t) (gr1 (grid1.coords t)) := by
  unfold qhiAt; rw [rep1_first h]
theorem qhiAt_next {u t : Fin cfg1.N} (hu : u.val + 1 = t.val) (h : ¬ t.val % 4 = 0) : qhiAt W c u = qhiAt W c t := by
  unfold qhiAt; rw [rep1_next hu h]
theorem qloAt_first {t : Fin cfg1.N} (h : t.val % 4 = 0) : qloAt W c t = val_qlo (in1_h W c t) (in1_w2 W c t) (gr1 (grid1.coords t)) := by
  unfold qloAt; rw [rep1_first h]
theorem qloAt_next {u t : Fin cfg1.N} (hu : u.val + 1 = t.val) (h : ¬ t.val % 4 = 0) : qloAt W c u = qloAt W c t := by
  unfold qloAt; rw [rep1_next hu h]
theorem shiAt_first {t : Fin cfg1.N} (h : t.val % 4 = 0) : shiAt W c t = val_shi (in1_h W c t) (in1_w2 W c t) (gr1 (grid1.coords t)) := by
  unfold shiAt; rw [rep1_first h]
theorem shiAt_next {u t : Fin cfg1.N} (hu : u.val + 1 = t.val) (h : ¬ t.val % 4 = 0) : shiAt W c u = shiAt W c t := by
  unfold shiAt; rw [rep1_next hu h]
theorem sloAt_first {t : Fin cfg1.N} (h : t.val % 4 = 0) : sloAt W c t = val_slo (in1_h W c t) (in1_w2 W c t) (gr1 (grid1.coords t)) := by
  unfold sloAt; rw [rep1_first h]
theorem sloAt_next {u t : Fin cfg1.N} (hu : u.val + 1 = t.val) (h : ¬ t.val % 4 = 0) : sloAt W c u = sloAt W c t := by
  unfold sloAt; rw [rep1_next hu h]
theorem csAt_first {t : Fin cfg1.N} (h : t.val % 4 = 0) : csAt W c t = val_cs (in1_h W c t) (in1_w2 W c t) (gr1 (grid1.coords t)) := by
  unfold csAt; rw [rep1_first h]
theorem csAt_next {u t : Fin cfg1.N} (hu : u.val + 1 = t.val) (h : ¬ t.val % 4 = 0) : csAt W c u = csAt W c t := by
  unfold csAt; rw [rep1_next hu h]

/-! ## What the scratch buffers hold before point `n` -/

/-- The first five hold what the point before left. -/
def KeepsScale (n : ℕ) (s0 : Vec F S4096x32 .i8) (s1 : Vec F S4096x32 .i8) (s2 : Vec F S1x32 .f32) (s3 : Vec F S1x32 .f32) (s4 : Vec F S1x32 .f32) : Prop :=
  ∀ u : Fin cfg1.N, u.val + 1 = n → s0 = qhiAt W c u ∧ s1 = qloAt W c u ∧ s2 = shiAt W c u ∧ s3 = sloAt W c u ∧ s4 = csAt W c u

/-- The bands of graph `m` already computed lie in `e`. -/
def KeepsBands (m : Fin 3) (n : ℕ) (e : Vec F S4096x32 .f32) : Prop :=
  ∀ u : Fin cfg1.N, u.val < n → gr1 (grid1.coords u) = m → band e (bd1 (grid1.coords u)) = embAt W c u

/-- A point of another graph changes nothing of it, -/
theorem KeepsBands.of_ne {m : Fin 3} {t : Fin cfg1.N} {e : Vec F S4096x32 .f32} (h : KeepsBands W c m t.val e) (hm : gr1 (grid1.coords t) ≠ m) :
    KeepsBands W c m (t.val + 1) e := fun u hu hg =>
  (Nat.lt_succ_iff_lt_or_eq.mp hu).elim (fun h' => h u h' hg) (fun h' => absurd ((Fin.ext h' : u = t) ▸ hg) hm)

/-- and a point of the graph adds its band. -/
theorem KeepsBands.step {m : Fin 3} {t : Fin cfg1.N} {e : Vec F S4096x32 .f32} (h : KeepsBands W c m t.val e) (hm : gr1 (grid1.coords t) = m) :
    KeepsBands W c m (t.val + 1) (setBand e (bd1 (grid1.coords t)) (embAt W c t)) := fun u hu hg => by
  rcases Nat.lt_succ_iff_lt_or_eq.mp hu with h' | h'
  · refine (band_setBand_of_ne e (fun hb => ?_) _).trans (h u h' hg)
    rw [bd1_coords, bd1_coords] at hb
    have h1 := congrArg Fin.val hb
    have h2 := congrArg Fin.val (hg.trans hm.symm)
    rw [gr1_coords, gr1_coords] at h2
    have h1' : u.val % 4 = t.val % 4 := h1
    have h2' : u.val / 4 = t.val / 4 := h2
    omega
  · obtain rfl : u = t := Fin.ext h'
    exact band_setBand_same _ _ _

theorem keepsScale_here (t : Fin cfg1.N) : KeepsScale W c (t.val + 1) (qhiAt W c t) (qloAt W c t) (shiAt W c t) (sloAt W c t) (csAt W c t) := fun u hu => by
  obtain rfl : u = t := Fin.ext (by omega)
  exact ⟨rfl, rfl, rfl, rfl, rfl⟩

theorem keepsScale_next {t : Fin cfg1.N} (h : ¬ t.val % 4 = 0) {s0 : Vec F S4096x32 .i8} {s1 : Vec F S4096x32 .i8} {s2 s3 s4 : Vec F S1x32 .f32}
    (hs : KeepsScale W c t.val s0 s1 s2 s3 s4) : s0 = qhiAt W c t ∧ s1 = qloAt W c t ∧ s2 = shiAt W c t ∧ s3 = sloAt W c t ∧ s4 = csAt W c t := by
  have hu : (back1 1 t).val + 1 = t.val := by show t.val - 1 + 1 = t.val; omega
  obtain ⟨h0, h1, h2, h3, h4⟩ := hs (back1 1 t) hu
  exact ⟨h0.trans (qhiAt_next W c hu h), h1.trans (qloAt_next W c hu h), h2.trans (shiAt_next W c hu h), h3.trans (sloAt_next W c hu h), h4.trans (csAt_next W c hu h)⟩

/-- What the two band buffers keep. -/
def KeepsAll (n : ℕ) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) : Prop :=
  KeepsScale W c n s0 s1 s2 s3 s4 ∧ KeepsBands W c 0 n e0 ∧ KeepsBands W c 1 n e1

/-! ## One point -/

/-- The buffers at point `t`. -/
abbrev at1 (t : Fin cfg1.N) (o : Vec F S1024x8 .f32) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) : sProp 𝕄 :=
  Held2 c (st1_0 t) (st1_1 t) (st1_2 t) (st1_3 t) (st1_4 t) (st1_5 t) (st1_6 t) (st1_7 t) (Memref.whole cc1_scratch0) (Memref.whole cc1_scratch1) (Memref.whole cc1_scratch2) (Memref.whole cc1_scratch3) (Memref.whole cc1_scratch4) (Memref.whole cc1_scratch5) (Memref.whole cc1_scratch6) (in1_q W c t) (in1_h W c t) (in1_w2 W c t) (in1_b2 W c t) (in1_a W c t) (in1_wl W c t) (in1_bl W c t) o s0 s1 s2 s3 s4 e0 e1

/-- What a point does: given what the scratch buffers keep before it, it runs to what they keep after it, and in the last graph leaves the
    result's block. -/
theorem point1 (t : Fin cfg1.N) (o : Vec F S1024x8 .f32) (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) (hK : KeepsAll W c t.val s0 s1 s2 s3 s4 e0 e1) :
    ∃ (o' : Vec F S1024x8 .f32) (e0' e1' : Vec F S4096x32 .f32), (8 ≤ t.val → o' = outAt W c t) ∧ KeepsAll W c (t.val + 1) (qhiAt W c t) (qloAt W c t) (shiAt W c t) (sloAt W c t) (csAt W c t) e0' e1'
      ∧ ∀ K : PUnit → sProp 𝕄, iprop(at1 W c t o s0 s1 s2 s3 s4 e0 e1 ∗ (at1 W c t o' (qhiAt W c t) (qloAt W c t) (shiAt W c t) (sloAt W c t) (csAt W c t) e0' e1' -∗ K ⟨⟩))
          ⊢ wp frame (wpE (defs₀ (F := F)) Variants.none c none) Set.univ (bodyAt1 t) K := by
  obtain ⟨hS, hB0, hB1⟩ := hK
  have ht : t.val < 12 := lt_of_lt_of_eq t.isLt N_1
  have hb : k1_cond1 (grid1.coords t) = 1#1 ↔ t.val % 4 = 0 := by
    rw [k1_cond1_iff, bd1_coords]
    exact ⟨fun h => congrArg Fin.val h, fun h => Fin.ext h⟩
  have hg (m : Fin 3) : gr1 (grid1.coords t) = m ↔ t.val / 4 = m.val := by
    rw [gr1_coords]
    exact ⟨fun h => congrArg Fin.val h, fun h => Fin.ext h⟩
  have hg0 := (k1_cond2_iff (grid1.coords t)).trans (hg 0)
  have hg1 := (k1_cond3_iff (grid1.coords t)).trans (hg 1)
  have hg2 := (k1_cond4_iff (grid1.coords t)).trans (hg 2)
  have hm : t.val / 4 = 0 ∨ t.val / 4 = 1 ∨ t.val / 4 = 2 := by omega
  have hne (m : Fin 3) (h : ¬ t.val / 4 = m.val) : gr1 (grid1.coords t) ≠ m := fun h' => h ((hg m).mp h')
  have h2o : t.val / 4 = 2 → val_out (embAt W c t) (band e0 (bd1 (grid1.coords t))) (band e1 (bd1 (grid1.coords t))) (in1_a W c t) (in1_wl W c t) (in1_bl W c t) = outAt W c t := fun h2 => by
    unfold outAt
    have hb0 := hB0 (back1 8 t) (by show t.val - 8 < t.val; omega) (by rw [gr1_coords]; exact Fin.ext (by show (t.val - 8) / 4 = 0; omega))
    have hb1 := hB1 (back1 4 t) (by show t.val - 4 < t.val; omega) (by rw [gr1_coords]; exact Fin.ext (by show (t.val - 4) / 4 = 1; omega))
    rw [bd1_back 2 t (by omega)] at hb0
    rw [bd1_back 1 t (by omega)] at hb1
    rw [hb0, hb1]
  by_cases h : t.val % 4 = 0
  · have r0 := qhiAt_first W c h
    have r1 := qloAt_first W c h
    have r2 := shiAt_first W c h
    have r3 := sloAt_first W c h
    have r4 := csAt_first W c h
    rcases hm with hm | hm | hm
    · have hR := fun K : PUnit → sProp 𝕄 => layer2_first0 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (hb.mpr h) (hg0.mpr hm) (fun h' => absurd (hm.symm.trans (hg1.mp h')) (by decide)) (fun h' => absurd (hm.symm.trans (hg2.mp h')) (by decide)) (in1_q W c t) (in1_h W c t) (in1_w2 W c t) (in1_b2 W c t) (in1_a W c t) (in1_wl W c t) (in1_bl W c t) o s0 s1 s2 s3 s4 e0 e1 Set.univ K
      have hE : val_emb (in1_q W c t) (qhiAt W c t) (qloAt W c t) (shiAt W c t) (sloAt W c t) (csAt W c t) (in1_b2 W c t) (gr1 (grid1.coords t)) = embAt W c t := rfl
      simp only [hE, ← r0, ← r1, ← r2, ← r3, ← r4] at hR
      exact ⟨o, setBand e0 (bd1 (grid1.coords t)) (embAt W c t), e1, fun h8 => absurd hm (by omega), ⟨keepsScale_here W c t, hB0.step W c ((hg 0).mpr hm), hB1.of_ne W c (hne 1 (by rw [hm]; decide))⟩, hR⟩
    · have hR := fun K : PUnit → sProp 𝕄 => layer2_first1 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (hb.mpr h) (fun h' => absurd (hm.symm.trans (hg0.mp h')) (by decide)) (hg1.mpr hm) (fun h' => absurd (hm.symm.trans (hg2.mp h')) (by decide)) (in1_q W c t) (in1_h W c t) (in1_w2 W c t) (in1_b2 W c t) (in1_a W c t) (in1_wl W c t) (in1_bl W c t) o s0 s1 s2 s3 s4 e0 e1 Set.univ K
      have hE : val_emb (in1_q W c t) (qhiAt W c t) (qloAt W c t) (shiAt W c t) (sloAt W c t) (csAt W c t) (in1_b2 W c t) (gr1 (grid1.coords t)) = embAt W c t := rfl
      simp only [hE, ← r0, ← r1, ← r2, ← r3, ← r4] at hR
      exact ⟨o, e0, setBand e1 (bd1 (grid1.coords t)) (embAt W c t), fun h8 => absurd hm (by omega), ⟨keepsScale_here W c t, hB0.of_ne W c (hne 0 (by rw [hm]; decide)), hB1.step W c ((hg 1).mpr hm)⟩, hR⟩
    · have hR := fun K : PUnit → sProp 𝕄 => layer2_first2 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (hb.mpr h) (fun h' => absurd (hm.symm.trans (hg0.mp h')) (by decide)) (fun h' => absurd (hm.symm.trans (hg1.mp h')) (by decide)) (hg2.mpr hm) (in1_q W c t) (in1_h W c t) (in1_w2 W c t) (in1_b2 W c t) (in1_a W c t) (in1_wl W c t) (in1_bl W c t) o s0 s1 s2 s3 s4 e0 e1 Set.univ K
      have hE : val_emb (in1_q W c t) (qhiAt W c t) (qloAt W c t) (shiAt W c t) (sloAt W c t) (csAt W c t) (in1_b2 W c t) (gr1 (grid1.coords t)) = embAt W c t := rfl
      simp only [hE, h2o hm, ← r0, ← r1, ← r2, ← r3, ← r4] at hR
      exact ⟨outAt W c t, e0, e1, fun _ => rfl, ⟨keepsScale_here W c t, hB0.of_ne W c (hne 0 (by rw [hm]; decide)), hB1.of_ne W c (hne 1 (by rw [hm]; decide))⟩, hR⟩
  · obtain ⟨rfl, rfl, rfl, rfl, rfl⟩ := keepsScale_next W c h hS
    rcases hm with hm | hm | hm
    · have hR := fun K : PUnit → sProp 𝕄 => layer2_next0 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (fun h' => h (hb.mp h')) (hg0.mpr hm) (fun h' => absurd (hm.symm.trans (hg1.mp h')) (by decide)) (fun h' => absurd (hm.symm.trans (hg2.mp h')) (by decide)) (in1_q W c t) (in1_h W c t) (in1_w2 W c t) (in1_b2 W c t) (in1_a W c t) (in1_wl W c t) (in1_bl W c t) o (qhiAt W c t) (qloAt W c t) (shiAt W c t) (sloAt W c t) (csAt W c t) e0 e1 Set.univ K
      have hE : val_emb (in1_q W c t) (qhiAt W c t) (qloAt W c t) (shiAt W c t) (sloAt W c t) (csAt W c t) (in1_b2 W c t) (gr1 (grid1.coords t)) = embAt W c t := rfl
      simp only [hE] at hR
      exact ⟨o, setBand e0 (bd1 (grid1.coords t)) (embAt W c t), e1, fun h8 => absurd hm (by omega), ⟨keepsScale_here W c t, hB0.step W c ((hg 0).mpr hm), hB1.of_ne W c (hne 1 (by rw [hm]; decide))⟩, hR⟩
    · have hR := fun K : PUnit → sProp 𝕄 => layer2_next1 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (fun h' => h (hb.mp h')) (fun h' => absurd (hm.symm.trans (hg0.mp h')) (by decide)) (hg1.mpr hm) (fun h' => absurd (hm.symm.trans (hg2.mp h')) (by decide)) (in1_q W c t) (in1_h W c t) (in1_w2 W c t) (in1_b2 W c t) (in1_a W c t) (in1_wl W c t) (in1_bl W c t) o (qhiAt W c t) (qloAt W c t) (shiAt W c t) (sloAt W c t) (csAt W c t) e0 e1 Set.univ K
      have hE : val_emb (in1_q W c t) (qhiAt W c t) (qloAt W c t) (shiAt W c t) (sloAt W c t) (csAt W c t) (in1_b2 W c t) (gr1 (grid1.coords t)) = embAt W c t := rfl
      simp only [hE] at hR
      exact ⟨o, e0, setBand e1 (bd1 (grid1.coords t)) (embAt W c t), fun h8 => absurd hm (by omega), ⟨keepsScale_here W c t, hB0.of_ne W c (hne 0 (by rw [hm]; decide)), hB1.step W c ((hg 1).mpr hm)⟩, hR⟩
    · have hR := fun K : PUnit → sProp 𝕄 => layer2_next2 c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (fun h' => h (hb.mp h')) (fun h' => absurd (hm.symm.trans (hg0.mp h')) (by decide)) (fun h' => absurd (hm.symm.trans (hg1.mp h')) (by decide)) (hg2.mpr hm) (in1_q W c t) (in1_h W c t) (in1_w2 W c t) (in1_b2 W c t) (in1_a W c t) (in1_wl W c t) (in1_bl W c t) o (qhiAt W c t) (qloAt W c t) (shiAt W c t) (sloAt W c t) (csAt W c t) e0 e1 Set.univ K
      have hE : val_emb (in1_q W c t) (qhiAt W c t) (qloAt W c t) (shiAt W c t) (sloAt W c t) (csAt W c t) (in1_b2 W c t) (gr1 (grid1.coords t)) = embAt W c t := rfl
      simp only [hE, h2o hm] at hR
      exact ⟨outAt W c t, e0, e1, fun _ => rfl, ⟨keepsScale_here W c t, hB0.of_ne W c (hne 0 (by rw [hm]; decide)), hB1.of_ne W c (hne 1 (by rw [hm]; decide))⟩, hR⟩

end Cert.Hand
-- ==== Proof.Body1.lean ====
/-
  The first pipeline's body, run: from the blocks it is given to the blocks it leaves.
-/
module

public import proofs.«01_k».proof.Proof.Loads
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD)

set_option maxHeartbeats 1600000 in
/-- The first point of a graph: it refills the scratch buffer with `X W1[m]` and uses it. -/
theorem layer1_first (i : grid0.Coords) (arg2 : Memref sig .tc .vmem S4096x128 .f32) (harg2 : arg2.IsWhole) (arg3 : Memref sig .tc .vmem S1x1024x4096 .f32) (harg3 : arg3.IsWhole) (arg4 : Memref sig .tc .vmem S3x128x64 .f32) (harg4 : arg4.IsWhole) (arg5 : Memref sig .tc .vmem S3x1x64 .f32) (harg5 : arg5.IsWhole) (arg6 : Memref sig .tc .vmem S1x1024x64 .bf16) (harg6 : arg6.IsWhole) (arg7 : Memref sig .tc .vmem S1x1024x4096 .i8) (harg7 : arg7.IsWhole) (arg8 : Memref sig .tc .vmem S4096x64 .bf16) (harg8 : arg8.IsWhole)
    (hc0 : k0_cond1 i = 1#1)
    (x0 : Vec F S4096x128 .f32) (x1 : Vec F S1x1024x4096 .f32) (x2 : Vec F S3x128x64 .f32) (x3 : Vec F S3x1x64 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (val_h1 x1 (val_y1 x0 x2 (gr0 i)) x3 (gr0 i)) ∗ owns (c : Thread nD τ) arg7 fullShare (k0_pay4 x1) ∗ owns (c : Thread nD τ) arg8 fullShare (val_y1 x0 x2 (gr0 i))) -∗ K ⟨⟩))
      ⊢ wp frame (wpE (defs₀ (F := F)) Variants.none c none) E (cc0__layer1_body i arg2 harg2 arg3 harg3 arg4 harg4 arg5 harg5 arg6 harg6 arg7 harg7 arg8 harg8) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    unfold layer1_first.sl.v6 layer1_first.sl.H6_1
    rw [load_slab harg5 x3 (k0_off2_eq i), View.readAt_full, harg3.read_unread]
    exact congrArg (fun y => k0_pay3 x1 y (slab x3 (gr0 i))) ((View.readCov_full _ _ _ _ _).trans (congrArg₂ k0_pay2 ((View.readAt_full _ _ _).trans (harg2.read_unread _)) (load_slab harg4 x2 (k0_off1_eq i))))
  isplitl [H5]
  · iexists _; isplitr; swap; · iexact H5
    ipureintro
    refine (View.read_writes_full _ _ _ _ _).trans ?_
    exact congrArg k0_pay4 ((View.readAt_full _ _ _).trans (harg3.read_unread _))
  iexists _; isplitr; swap; · iexact H6
  ipureintro
  unfold layer1_first.sl.H6_1
  refine (View.read_writes_full _ _ _ _ _).trans ?_
  exact congrArg₂ k0_pay2 ((View.readAt_full _ _ _).trans (harg2.read_unread _)) (load_slab harg4 x2 (k0_off1_eq i))

set_option maxHeartbeats 1600000 in
/-- A later point of a graph: it uses the scratch buffer as it stands. -/
theorem layer1_next (i : grid0.Coords) (arg2 : Memref sig .tc .vmem S4096x128 .f32) (harg2 : arg2.IsWhole) (arg3 : Memref sig .tc .vmem S1x1024x4096 .f32) (harg3 : arg3.IsWhole) (arg4 : Memref sig .tc .vmem S3x128x64 .f32) (harg4 : arg4.IsWhole) (arg5 : Memref sig .tc .vmem S3x1x64 .f32) (harg5 : arg5.IsWhole) (arg6 : Memref sig .tc .vmem S1x1024x64 .bf16) (harg6 : arg6.IsWhole) (arg7 : Memref sig .tc .vmem S1x1024x4096 .i8) (harg7 : arg7.IsWhole) (arg8 : Memref sig .tc .vmem S4096x64 .bf16) (harg8 : arg8.IsWhole)
    (hc0 : ¬ k0_cond1 i = 1#1)
    (x0 : Vec F S4096x128 .f32) (x1 : Vec F S1x1024x4096 .f32) (x2 : Vec F S3x128x64 .f32) (x3 : Vec F S3x1x64 .f32) (y : Vec F S4096x64 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare y ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (val_h1 x1 y x3 (gr0 i)) ∗ owns (c : Thread nD τ) arg7 fullShare (k0_pay4 x1) ∗ owns (c : Thread nD τ) arg8 fullShare y) -∗ K ⟨⟩))
      ⊢ wp frame (wpE (defs₀ (F := F)) Variants.none c none) E (cc0__layer1_body i arg2 harg2 arg3 harg3 arg4 harg4 arg5 harg5 arg6 harg6 arg7 harg7 arg8 harg8) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3
  obtain rfl := harg8.eq_unread hf6
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine (View.read_writes_full _ _ _ _ _).trans ?_
    rw [load_slab harg5 x3 (k0_off2_eq i), View.readAt_full, harg3.read_unread]
    exact congrArg (fun y => k0_pay3 x1 y (slab x3 (gr0 i))) ((View.readAt_full _ _ _).trans (harg8.read_unread _))
  isplitl [H5]
  · iexists _; isplitr; swap; · iexact H5
    ipureintro
    refine (View.read_writes_full _ _ _ _ _).trans ?_
    exact congrArg k0_pay4 ((View.readAt_full _ _ _).trans (harg3.read_unread _))
  iexists _; isplitr; · ipureintro; exact harg8.read_unread _
  iexact H6

end Cert.Hand
-- ==== Proof.Region0.lean ====
/-
  The first pipeline's data: the blocks its points are given, what they leave, and the body obligation.
-/
module

public import proofs.«01_k».proof.Proof.Body1
public import proofs.«01_k».proof.Proof.Gen.KernelIdeal.Regions
public import Idealize.ShloMosaic.Lib.Pipeline.DatRel
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F]

local notation "𝕄" => MT nD τ sig Unit (Elt F) ℕ (UR sig nD τ) ℕ

variable (W : Dev nD → Valuation τ sig (Elt F)) (c : Dev nD)

/-! ## The points -/

theorem gr0_coords (t : Fin cfg0.N) : gr0 (grid0.coords t) = ⟨t.val / 4, by have : t.val < 12 := lt_of_lt_of_eq t.isLt N_0; omega⟩ :=
  Fin.ext (by
    have ht : t.val < 12 := lt_of_lt_of_eq t.isLt N_0
    have e : (grid0.coords t 0).val = t.val / 4 % 3 := Pipeline.Grid.coords_val t 0 (by decide) rfl
    show (grid0.coords t 0).val = t.val / 4
    omega)

theorem bd0_coords (t : Fin cfg0.N) : bd0 (grid0.coords t) = ⟨t.val % 4, by omega⟩ :=
  Fin.ext (by
    have e : (grid0.coords t 1).val = t.val / 1 % 4 := Pipeline.Grid.coords_val t 1 (by decide) rfl
    show (grid0.coords t 1).val = t.val % 4
    omega)

/-- The first point of `t`'s graph. -/
def rep0 (t : Fin cfg0.N) : Fin cfg0.N := ⟨4 * (t.val / 4), by have := t.isLt; omega⟩

theorem rep0_first {t : Fin cfg0.N} (h : t.val % 4 = 0) : rep0 t = t := Fin.ext (by show 4 * (t.val / 4) = t.val; omega)

theorem rep0_next {u t : Fin cfg0.N} (hu : u.val + 1 = t.val) (h : ¬ t.val % 4 = 0) : rep0 u = rep0 t :=
  Fin.ext (by show 4 * (u.val / 4) = 4 * (t.val / 4); omega)

theorem gr0_rep0 (t : Fin cfg0.N) : gr0 (grid0.coords (rep0 t)) = gr0 (grid0.coords t) := by
  rw [gr0_coords, gr0_coords]; exact Fin.ext (by show 4 * (t.val / 4) / 4 = t.val / 4; omega)

/-! ## The blocks and what the points leave -/

/-- Window `w`'s block at point `t`, of the arrays as the pipeline finds them. -/
def blk0 (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

def in0_x (t : Fin cfg0.N) : Vec F S4096x128 .f32 := blk0 W c 0 t
def in0_adj (t : Fin cfg0.N) : Vec F S1x1024x4096 .f32 := blk0 W c 1 t
def in0_w1 (t : Fin cfg0.N) : Vec F S3x128x64 .f32 := blk0 W c 2 t
def in0_b1 (t : Fin cfg0.N) : Vec F S3x1x64 .f32 := blk0 W c 3 t

/-- What the scratch buffer holds during `t`'s graph. -/
def y1At (t : Fin cfg0.N) : Vec F S4096x64 .bf16 := val_y1 (in0_x W c (rep0 t)) (in0_w1 W c (rep0 t)) (gr0 (grid0.coords (rep0 t)))

/-- The block of `h1` point `t` leaves. -/
def h1At (t : Fin cfg0.N) : Vec F S1x1024x64 .bf16 := val_h1 (in0_adj W c t) (y1At W c t) (in0_b1 W c t) (gr0 (grid0.coords t))

/-- The block of codes point `t` leaves. -/
def qAt (t : Fin cfg0.N) : Vec F S1x1024x4096 .i8 := k0_pay4 (in0_adj W c t)

theorem y1At_first {t : Fin cfg0.N} (h : t.val % 4 = 0) : y1At W c t = val_y1 (in0_x W c t) (in0_w1 W c t) (gr0 (grid0.coords t)) := by
  unfold y1At; rw [rep0_first h]

theorem y1At_next {u t : Fin cfg0.N} (hu : u.val + 1 = t.val) (h : ¬ t.val % 4 = 0) : y1At W c u = y1At W c t := by
  unfold y1At; rw [rep0_next hu h]

/-! ## The proof data -/

/-- A buffer whole at some contents. -/
abbrev someB (b : Ref sig .tc) : sProp 𝕄 := iprop(∃ f : Buf (Elt F) ((c : Thread nD τ).loc b), ((c : Thread nD τ).loc b) ↦{fullShare} f)

/-- The buffers of the other pipeline, at any contents. -/
def rest0 : sProp 𝕄 :=
  iprop(someB (F := F) c cc1_stg0_0 ∗ someB (F := F) c cc1_stg0_1 ∗ someB (F := F) c cc1_stg1_0 ∗ someB (F := F) c cc1_stg1_1 ∗ someB (F := F) c cc1_stg2_0 ∗ someB (F := F) c cc1_stg3_0 ∗ someB (F := F) c cc1_stg4_0 ∗ someB (F := F) c cc1_stg5_0 ∗ someB (F := F) c cc1_stg6_0 ∗ someB (F := F) c cc1_stg7_0 ∗ someB (F := F) c cc1_stg7_1 ∗ someB (F := F) c cc1_scratch0 ∗ someB (F := F) c cc1_scratch1 ∗ someB (F := F) c cc1_scratch2 ∗ someB (F := F) c cc1_scratch3 ∗ someB (F := F) c cc1_scratch4 ∗ someB (F := F) c cc1_scratch5 ∗ someB (F := F) c cc1_scratch6)

/-- Before point `n` the scratch buffer holds what the point before left (anything before the first). -/
def inv0 (n : ℕ) : sProp 𝕄 :=
  iprop((∃ d, ⌜∀ u : Fin cfg0.N, u.val + 1 = n → d = y1At W c u⌝ ∗ owns (c : Thread nD τ) (Memref.whole cc0_scratch0) fullShare d) ∗ rest0 (F := F) c)

/-- The data of the first pipeline, from the contents `W` it is entered with. -/
def dats0 : Dat τ (Elt F) Unit ℕ (UR sig nD τ) ℕ cfg0 c where
  A w := W c (Proc.devRef .tc (Pipeline.arrRef spec0 w))
  after w t := match w with
    | ⟨0, _⟩ => blk0 W c 0 t
    | ⟨1, _⟩ => blk0 W c 1 t
    | ⟨2, _⟩ => blk0 W c 2 t
    | ⟨3, _⟩ => blk0 W c 3 t
    | ⟨4, _⟩ => h1At W c t
    | ⟨5, _⟩ => qAt W c t
  Φ n := inv0 W c n.val
  q _ := fullShare
  owed _ := 0

theorem dats0_A (w : Fin cfg0.W) : (dats0 W c).A w = W c (Proc.devRef .tc (Pipeline.arrRef spec0 w)) := by dsimp only [dats0]
theorem dats0_after0 (t : Fin cfg0.N) : (dats0 W c).after 0 t = blk0 W c 0 t := by dsimp only [dats0]
theorem dats0_after1 (t : Fin cfg0.N) : (dats0 W c).after 1 t = blk0 W c 1 t := by dsimp only [dats0]
theorem dats0_after2 (t : Fin cfg0.N) : (dats0 W c).after 2 t = blk0 W c 2 t := by dsimp only [dats0]
theorem dats0_after3 (t : Fin cfg0.N) : (dats0 W c).after 3 t = blk0 W c 3 t := by dsimp only [dats0]
theorem dats0_after4 (t : Fin cfg0.N) : (dats0 W c).after 4 t = h1At W c t := by dsimp only [dats0]
theorem dats0_after5 (t : Fin cfg0.N) : (dats0 W c).after 5 t = qAt W c t := by dsimp only [dats0]
theorem dats0_before0 (t : Fin cfg0.N) (d) : (dats0 W c).before 0 t d = blk0 W c 0 t :=
  ((dats0 W c).before_in_eq_fetched 0 rfl (fun _ => rfl) (fun _ _ _ => rfl)
    (fun t => by rw [dats0_after0]; unfold Dat.blockOf blk0; rw [dats0_A]; try rfl) t d).trans
    (by unfold Dat.fetched Dat.blockOf blk0; rw [dats0_A]; try rfl)
theorem dats0_before1 (t : Fin cfg0.N) (d) : (dats0 W c).before 1 t d = blk0 W c 1 t :=
  ((dats0 W c).before_in_eq_fetched 1 rfl (fun _ => rfl) (fun _ _ _ => rfl)
    (fun t => by rw [dats0_after1]; unfold Dat.blockOf blk0; rw [dats0_A]; try rfl) t d).trans
    (by unfold Dat.fetched Dat.blockOf blk0; rw [dats0_A]; try rfl)
theorem dats0_before2 (t : Fin cfg0.N) (d) : (dats0 W c).before 2 t d = blk0 W c 2 t :=
  ((dats0 W c).before_in_eq_fetched 2 rfl (fun _ => rfl) (fun _ _ _ => rfl)
    (fun t => by rw [dats0_after2]; unfold Dat.blockOf blk0; rw [dats0_A]; try rfl) t d).trans
    (by unfold Dat.fetched Dat.blockOf blk0; rw [dats0_A]; try rfl)
theorem dats0_before3 (t : Fin cfg0.N) (d) : (dats0 W c).before 3 t d = blk0 W c 3 t :=
  ((dats0 W c).before_in_eq_fetched 3 rfl (fun _ => rfl) (fun _ _ _ => rfl)
    (fun t => by rw [dats0_after3]; unfold Dat.blockOf blk0; rw [dats0_A]; try rfl) t d).trans
    (by unfold Dat.fetched Dat.blockOf blk0; rw [dats0_A]; try rfl)

/-- No window of the first pipeline is read relationally. -/
def marks0 : Fin cfg0.W → Bool := fun _ => false

/-! ## The body obligation -/

def pre0 (t : Fin cfg0.N) : sProp 𝕄 :=
  iprop(inv0 W c t.val ∗ (dats0 W c).owesAt () t.castSucc
    ∗ (∃ d, owns (c : Thread nD τ) (st0_0 t) fullShare ((dats0 W c).before 0 t d))
    ∗ (∃ d, owns (c : Thread nD τ) (st0_1 t) fullShare ((dats0 W c).before 1 t d))
    ∗ (∃ d, owns (c : Thread nD τ) (st0_2 t) fullShare ((dats0 W c).before 2 t d))
    ∗ (∃ d, owns (c : Thread nD τ) (st0_3 t) fullShare ((dats0 W c).before 3 t d))
    ∗ (∃ d, owns (c : Thread nD τ) (st0_4 t) fullShare ((dats0 W c).before 4 t d))
    ∗ (∃ d, owns (c : Thread nD τ) (st0_5 t) fullShare ((dats0 W c).before 5 t d)))

def post0 (t : Fin cfg0.N) : sProp 𝕄 :=
  iprop(inv0 W c (t.val + 1) ∗ (dats0 W c).owesAt () t.castSucc
    ∗ owns (c : Thread nD τ) (st0_0 t) fullShare (in0_x W c t)
    ∗ owns (c : Thread nD τ) (st0_1 t) fullShare (in0_adj W c t)
    ∗ owns (c : Thread nD τ) (st0_2 t) fullShare (in0_w1 W c t)
    ∗ owns (c : Thread nD τ) (st0_3 t) fullShare (in0_b1 W c t)
    ∗ owns (c : Thread nD τ) (st0_4 t) fullShare (h1At W c t)
    ∗ owns (c : Thread nD τ) (st0_5 t) fullShare (qAt W c t))

theorem sound0 (t : Fin cfg0.N) :
    pre0 W c t ⊢ wp frame (wpE (defs₀ (F := F)) Variants.none c none) Set.univ (bodyAt0 t) (fun _ => post0 W c t) := by
  unfold pre0 post0 bodyAt0 inv0
  simp only [dats0_before0, dats0_before1, dats0_before2, dats0_before3]
  have hb : k0_cond1 (grid0.coords t) = 1#1 ↔ t.val % 4 = 0 := by
    rw [k0_cond1_iff, bd0_coords]
    exact ⟨fun h => congrArg Fin.val h, fun h => Fin.ext h⟩
  iintro ⟨⟨⟨%y, %hy, HS⟩, Hr⟩, Ho, ⟨%d0, H0⟩, ⟨%d1, H1⟩, ⟨%d2, H2⟩, ⟨%d3, H3⟩, ⟨%d4, H4⟩, ⟨%d5, H5⟩⟩
  by_cases h : t.val % 4 = 0
  · have hy1 : val_h1 (in0_adj W c t) (val_y1 (in0_x W c t) (in0_w1 W c t) (gr0 (grid0.coords t))) (in0_b1 W c t) (gr0 (grid0.coords t)) = h1At W c t := by
      unfold h1At; rw [y1At_first W c h]
    iapply (layer1_first c (grid0.coords t) _ _ _ _ _ _ _ _ _ _ _ _ _ _ (hb.mpr h) (in0_x W c t) (in0_adj W c t) (in0_w1 W c t) (in0_b1 W c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, H4, H5, HS⟩
    isplitl [HS Hr]
    · isplitl [HS]
      · iexists _; isplitr; swap; · iexact HS
        ipureintro
        exact fun u hu => (show u = t from Fin.ext (by omega)) ▸ (y1At_first W c h).symm
      iexact Hr
    isplitl [Ho]; · iexact Ho
    isplitl [H0]; · iexact H0
    isplitl [H1]; · iexact H1
    isplitl [H2]; · iexact H2
    isplitl [H3]; · iexact H3
    isplitl [H4]; · rw [← hy1]; iexact H4
    iexact H5
  · have hy1 : val_h1 (in0_adj W c t) y (in0_b1 W c t) (gr0 (grid0.coords t)) = h1At W c t := by
      unfold h1At
      rw [hy ⟨t.val - 1, by have := t.isLt; omega⟩ (by show t.val - 1 + 1 = t.val; omega), y1At_next W c (t := t) (by show t.val - 1 + 1 = t.val; omega) h]
    iapply (layer1_next c (grid0.coords t) _ _ _ _ _ _ _ _ _ _ _ _ _ _ (fun h' => h (hb.mp h')) (in0_x W c t) (in0_adj W c t) (in0_w1 W c t) (in0_b1 W c t) y Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hr]
    · isplitl [HS]
      · iexists _; isplitr; swap; · iexact HS
        ipureintro
        exact fun u hu => (show u = t from Fin.ext (by omega)) ▸ (hy ⟨t.val - 1, by have := t.isLt; omega⟩ (by show t.val - 1 + 1 = t.val; omega)).trans (y1At_next W c (t := t) (by show t.val - 1 + 1 = t.val; omega) h)
      iexact Hr
    isplitl [Ho]; · iexact Ho
    isplitl [H0]; · iexact H0
    isplitl [H1]; · iexact H1
    isplitl [H2]; · iexact H2
    isplitl [H3]; · iexact H3
    isplitl [H4]; · rw [← hy1]; iexact H4
    iexact H5

theorem defs₀_row0 (t : Fin cfg0.N) : defs₀ (F := F) .tc cfg0.body (cfg0.bodyArgs t (cfg0.slots t)) = bodyAt0 t := by
  unfold defs₀; rw [Defs.onTc_tc]

theorem obligation0 (Rl) : BodyObligationRel (dats0 W c) (defs₀ (F := F)) Variants.none () Set.univ marks0 Rl := fun t => by
  rw [bigSep_W0, bigSep_W0, defs₀_row0]
  exact triple_restated (sound0 W c t) rfl .rfl fun _ => .rfl

/-! ## Entering and leaving -/

/-- The scoped buffers no window stages make the invariant before the first point, -/
theorem enter0 : (Pipeline.scopedRest spec0 c : sProp 𝕄) ⊢ (dats0 W c).Φ 0 := by
  rw [scopedRest0_eq]
  show _ ⊢ inv0 W c 0
  unfold inv0 rest0
  simp only [owns_whole]
  iintro ⟨⟨%f, HS⟩, Hr⟩
  isplitl [HS]
  · iexists f; isplitr
    · ipureintro; exact fun u hu => absurd hu (Nat.succ_ne_zero _)
    iexact HS
  iexact Hr

/-- and the invariant after the last gives them back. -/
theorem leave0 : (dats0 W c).Φ (Fin.last cfg0.N) ⊢ (Pipeline.scopedRest spec0 c : sProp 𝕄) := by
  rw [scopedRest0_eq]
  show inv0 W c cfg0.N ⊢ _
  unfold inv0 rest0
  simp only [owns_whole]
  iintro ⟨⟨%d, -, HS⟩, Hr⟩
  isplitl [HS]
  · iexists d; iexact HS
  iexact Hr

end Cert.Hand
-- ==== Proof.Region1.lean ====
/-
  The second pipeline's data and its body obligation.
-/
module

public import proofs.«01_k».proof.Proof.Point1
public import proofs.«01_k».proof.Proof.Region0
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationRel)

variable {F : FTy → Type} [FloatOps F]

local notation "𝕄" => MT nD τ sig Unit (Elt F) ℕ (UR sig nD τ) ℕ

variable (W : Dev nD → Valuation τ sig (Elt F)) (c : Dev nD)

/-- The buffers of the other pipeline, at any contents. -/
def rest1 : sProp 𝕄 :=
  iprop(someB (F := F) c cc0_stg0_0 ∗ someB (F := F) c cc0_stg1_0 ∗ someB (F := F) c cc0_stg1_1 ∗ someB (F := F) c cc0_stg2_0 ∗ someB (F := F) c cc0_stg3_0 ∗ someB (F := F) c cc0_stg4_0 ∗ someB (F := F) c cc0_stg4_1 ∗ someB (F := F) c cc0_stg5_0 ∗ someB (F := F) c cc0_stg5_1 ∗ someB (F := F) c cc0_scratch0)

/-- What the seven scratch buffers hold. -/
def scratch1 (s0 : Vec F S4096x32 .i8) (s1 : Vec F S4096x32 .i8) (s2 : Vec F S1x32 .f32) (s3 : Vec F S1x32 .f32) (s4 : Vec F S1x32 .f32) (e0 : Vec F S4096x32 .f32) (e1 : Vec F S4096x32 .f32) : sProp 𝕄 :=
  iprop(owns (c : Thread nD τ) (Memref.whole cc1_scratch0) fullShare s0 ∗ owns (c : Thread nD τ) (Memref.whole cc1_scratch1) fullShare s1 ∗ owns (c : Thread nD τ) (Memref.whole cc1_scratch2) fullShare s2 ∗ owns (c : Thread nD τ) (Memref.whole cc1_scratch3) fullShare s3 ∗ owns (c : Thread nD τ) (Memref.whole cc1_scratch4) fullShare s4 ∗ owns (c : Thread nD τ) (Memref.whole cc1_scratch5) fullShare e0 ∗ owns (c : Thread nD τ) (Memref.whole cc1_scratch6) fullShare e1)

/-- Before point `n` the scratch buffers keep what the earlier points left. -/
def inv1 (n : ℕ) : sProp 𝕄 :=
  iprop((∃ s0 s1 s2 s3 s4 e0 e1, ⌜KeepsAll W c n s0 s1 s2 s3 s4 e0 e1⌝ ∗ scratch1 c s0 s1 s2 s3 s4 e0 e1) ∗ rest1 (F := F) c)

/-- The data of the second pipeline, from the contents `W` it is entered with. -/
def dats1 : Dat τ (Elt F) Unit ℕ (UR sig nD τ) ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => blk1 W c 6 t
    | ⟨7, _⟩ => outAt W c t
  Φ n := inv1 W c n.val
  q _ := fullShare
  owed _ := 0

theorem dats1_A (w : Fin cfg1.W) : (dats1 W c).A w = W c (Proc.devRef .tc (Pipeline.arrRef spec1 w)) := by dsimp only [dats1]
theorem dats1_after0 (t : Fin cfg1.N) : (dats1 W c).after 0 t = blk1 W c 0 t := by dsimp only [dats1]
theorem dats1_after1 (t : Fin cfg1.N) : (dats1 W c).after 1 t = blk1 W c 1 t := by dsimp only [dats1]
theorem dats1_after2 (t : Fin cfg1.N) : (dats1 W c).after 2 t = blk1 W c 2 t := by dsimp only [dats1]
theorem dats1_after3 (t : Fin cfg1.N) : (dats1 W c).after 3 t = blk1 W c 3 t := by dsimp only [dats1]
theorem dats1_after4 (t : Fin cfg1.N) : (dats1 W c).after 4 t = blk1 W c 4 t := by dsimp only [dats1]
theorem dats1_after5 (t : Fin cfg1.N) : (dats1 W c).after 5 t = blk1 W c 5 t := by dsimp only [dats1]
theorem dats1_after6 (t : Fin cfg1.N) : (dats1 W c).after 6 t = blk1 W c 6 t := by dsimp only [dats1]
theorem dats1_before0 (t : Fin cfg1.N) (d) : (dats1 W c).before 0 t d = blk1 W c 0 t :=
  ((dats1 W c).before_in_eq_fetched 0 rfl (fun _ => rfl) (fun _ _ _ => rfl)
    (fun t => by rw [dats1_after0]; unfold Dat.blockOf blk1; rw [dats1_A]; try rfl) t d).trans
    (by unfold Dat.fetched Dat.blockOf blk1; rw [dats1_A]; try rfl)
theorem dats1_before1 (t : Fin cfg1.N) (d) : (dats1 W c).before 1 t d = blk1 W c 1 t :=
  ((dats1 W c).before_in_eq_fetched 1 rfl (fun _ => rfl) (fun _ _ _ => rfl)
    (fun t => by rw [dats1_after1]; unfold Dat.blockOf blk1; rw [dats1_A]; try rfl) t d).trans
    (by unfold Dat.fetched Dat.blockOf blk1; rw [dats1_A]; try rfl)
theorem dats1_before2 (t : Fin cfg1.N) (d) : (dats1 W c).before 2 t d = blk1 W c 2 t :=
  ((dats1 W c).before_in_eq_fetched 2 rfl (fun _ => rfl) (fun _ _ _ => rfl)
    (fun t => by rw [dats1_after2]; unfold Dat.blockOf blk1; rw [dats1_A]; try rfl) t d).trans
    (by unfold Dat.fetched Dat.blockOf blk1; rw [dats1_A]; try rfl)
theorem dats1_before3 (t : Fin cfg1.N) (d) : (dats1 W c).before 3 t d = blk1 W c 3 t :=
  ((dats1 W c).before_in_eq_fetched 3 rfl (fun _ => rfl) (fun _ _ _ => rfl)
    (fun t => by rw [dats1_after3]; unfold Dat.blockOf blk1; rw [dats1_A]; try rfl) t d).trans
    (by unfold Dat.fetched Dat.blockOf blk1; rw [dats1_A]; try rfl)
theorem dats1_before4 (t : Fin cfg1.N) (d) : (dats1 W c).before 4 t d = blk1 W c 4 t :=
  ((dats1 W c).before_in_eq_fetched 4 rfl (fun _ => rfl) (fun _ _ _ => rfl)
    (fun t => by rw [dats1_after4]; unfold Dat.blockOf blk1; rw [dats1_A]; try rfl) t d).trans
    (by unfold Dat.fetched Dat.blockOf blk1; rw [dats1_A]; try rfl)
theorem dats1_before5 (t : Fin cfg1.N) (d) : (dats1 W c).before 5 t d = blk1 W c 5 t :=
  ((dats1 W c).before_in_eq_fetched 5 rfl (fun _ => rfl) (fun _ _ _ => rfl)
    (fun t => by rw [dats1_after5]; unfold Dat.blockOf blk1; rw [dats1_A]; try rfl) t d).trans
    (by unfold Dat.fetched Dat.blockOf blk1; rw [dats1_A]; try rfl)
theorem dats1_before6 (t : Fin cfg1.N) (d) : (dats1 W c).before 6 t d = blk1 W c 6 t :=
  ((dats1 W c).before_in_eq_fetched 6 rfl (fun _ => rfl) (fun _ _ _ => rfl)
    (fun t => by rw [dats1_after6]; unfold Dat.blockOf blk1; rw [dats1_A]; try rfl) t d).trans
    (by unfold Dat.fetched Dat.blockOf blk1; rw [dats1_A]; try rfl)

/-- Only the result's window is read relationally: its earlier blocks are whatever the buffer held. -/
def marks1 : Fin cfg1.W → Bool := fun w => match w with
  | ⟨7, _⟩ => true
  | _ => false

/-- The points of the last graph leave the result's blocks. -/
def leaves1 : (w : Fin cfg1.W) → Fin cfg1.N → ((cfg1.win w).block.Idx → Elt F (cfg1.win w).elt) → Prop := fun w => match w with
  | ⟨7, _⟩ => fun t X => 8 ≤ t.val → X = outAt W c t
  | _ => fun _ _ => True

/-! ## The body obligation -/

def pre1 (Y : Vec F S1024x8 .f32 → Prop) (t : Fin cfg1.N) : sProp 𝕄 :=
  iprop(inv1 W c t.val ∗ (dats1 W c).owesAt () t.castSucc
    ∗ (∃ d, owns (c : Thread nD τ) (st1_0 t) fullShare ((dats1 W c).before 0 t d))
    ∗ (∃ d, owns (c : Thread nD τ) (st1_1 t) fullShare ((dats1 W c).before 1 t d))
    ∗ (∃ d, owns (c : Thread nD τ) (st1_2 t) fullShare ((dats1 W c).before 2 t d))
    ∗ (∃ d, owns (c : Thread nD τ) (st1_3 t) fullShare ((dats1 W c).before 3 t d))
    ∗ (∃ d, owns (c : Thread nD τ) (st1_4 t) fullShare ((dats1 W c).before 4 t d))
    ∗ (∃ d, owns (c : Thread nD τ) (st1_5 t) fullShare ((dats1 W c).before 5 t d))
    ∗ (∃ d, owns (c : Thread nD τ) (st1_6 t) fullShare ((dats1 W c).before 6 t d))
    ∗ (∃ o, ⌜Y o⌝ ∗ owns (c : Thread nD τ) (st1_7 t) fullShare o))

def post1 (t : Fin cfg1.N) : sProp 𝕄 :=
  iprop(inv1 W c (t.val + 1) ∗ (dats1 W c).owesAt () t.castSucc
    ∗ owns (c : Thread nD τ) (st1_0 t) fullShare (in1_q W c t)
    ∗ owns (c : Thread nD τ) (st1_1 t) fullShare (in1_h W c t)
    ∗ owns (c : Thread nD τ) (st1_2 t) fullShare (in1_w2 W c t)
    ∗ owns (c : Thread nD τ) (st1_3 t) fullShare (in1_b2 W c t)
    ∗ owns (c : Thread nD τ) (st1_4 t) fullShare (in1_a W c t)
    ∗ owns (c : Thread nD τ) (st1_5 t) fullShare (in1_wl W c t)
    ∗ owns (c : Thread nD τ) (st1_6 t) fullShare (in1_bl W c t)
    ∗ (∃ o : Vec F S1024x8 .f32, ⌜8 ≤ t.val → o = outAt W c t⌝ ∗ owns (c : Thread nD τ) (st1_7 t) fullShare o))

theorem sound1 (Y : Vec F S1024x8 .f32 → Prop) (t : Fin cfg1.N) :
    pre1 W c Y t ⊢ wp frame (wpE (defs₀ (F := F)) Variants.none c none) Set.univ (bodyAt1 t) (fun _ => post1 W c t) := by
  unfold pre1 post1 inv1 scratch1
  simp only [dats1_before0, dats1_before1, dats1_before2, dats1_before3, dats1_before4, dats1_before5, dats1_before6]
  iintro ⟨⟨⟨%s0, %s1, %s2, %s3, %s4, %e0, %e1, %hK, S0, S1, S2, S3, S4, S5, S6⟩, Hr⟩, Ho, ⟨%d0, H0⟩, ⟨%d1, H1⟩, ⟨%d2, H2⟩, ⟨%d3, H3⟩, ⟨%d4, H4⟩, ⟨%d5, H5⟩, ⟨%d6, H6⟩, ⟨%o, -, H7⟩⟩
  obtain ⟨o', e0', e1', ho', hK', hR⟩ := point1 W c t o s0 s1 s2 s3 s4 e0 e1 hK
  iapply (hR _)
  unfold at1 Held2
  isplitl [H0 H1 H2 H3 H4 H5 H6 H7 S0 S1 S2 S3 S4 S5 S6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iexact S6
  iintro ⟨H0, H1, H2, H3, H4, H5, H6, H7, S0, S1, S2, S3, S4, S5, S6⟩
  isplitl [S0 S1 S2 S3 S4 S5 S6 Hr]
  · isplitl [S0 S1 S2 S3 S4 S5 S6]
    · iexists _, _, _, _, _, e0', e1'
      isplitr; · ipureintro; exact hK'
      isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexists o'
  isplitr; · ipureintro; exact ho'
  iexact H7

theorem defs₀_row1 (t : Fin cfg1.N) : defs₀ (F := F) .tc cfg1.body (cfg1.bodyArgs t (cfg1.slots t)) = bodyAt1 t := by
  unfold defs₀; rw [Defs.onTc_tc]

theorem obligation1 : BodyObligationRel (dats1 W c) (defs₀ (F := F)) Variants.none () Set.univ marks1 (leaves1 W c) := fun t => by
  rw [bigSep_W1, bigSep_W1, defs₀_row1]
  exact triple_restated (sound1 W c (fun o => ((dats1 W c).toRRel marks1 (leaves1 W c)).Finds 7 t o) t) rfl .rfl fun _ => .rfl

/-! ## Entering and leaving -/

/-- The scoped buffers no window stages make the invariant before the first point, -/
theorem enter1 : (Pipeline.scopedRest spec1 c : sProp 𝕄) ⊢ (dats1 W c).Φ 0 := by
  rw [scopedRest1_eq]
  show _ ⊢ inv1 W c 0
  unfold inv1 scratch1 rest1
  simp only [owns_whole]
  iintro ⟨R0, R1, R2, R3, R4, R5, R6, R7, R8, R9, ⟨%f0, S0⟩, ⟨%f1, S1⟩, ⟨%f2, S2⟩, ⟨%f3, S3⟩, ⟨%f4, S4⟩, ⟨%f5, S5⟩, ⟨%f6, S6⟩⟩
  isplitl [S0 S1 S2 S3 S4 S5 S6]
  · iexists f0, f1, f2, f3, f4, f5, f6
    isplitr
    · ipureintro; exact ⟨fun u hu => absurd hu (Nat.succ_ne_zero _), fun u hu => absurd hu (Nat.not_lt_zero _), fun u hu => absurd hu (Nat.not_lt_zero _)⟩
    isplitl [S0]; · iexact S0
    isplitl [S1]; · iexact S1
    isplitl [S2]; · iexact S2
    isplitl [S3]; · iexact S3
    isplitl [S4]; · iexact S4
    isplitl [S5]; · iexact S5
    iexact S6
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  iexact R9

/-- and the invariant after the last gives them back. -/
theorem leave1 : (dats1 W c).Φ (Fin.last cfg1.N) ⊢ (Pipeline.scopedRest spec1 c : sProp 𝕄) := by
  rw [scopedRest1_eq]
  show inv1 W c cfg1.N ⊢ _
  unfold inv1 scratch1 rest1
  simp only [owns_whole]
  iintro ⟨⟨%f0, %f1, %f2, %f3, %f4, %f5, %f6, -, S0, S1, S2, S3, S4, S5, S6⟩, R0, R1, R2, R3, R4, R5, R6, R7, R8, R9⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [S0]; · iexists f0; iexact S0
  isplitl [S1]; · iexists f1; iexact S1
  isplitl [S2]; · iexists f2; iexact S2
  isplitl [S3]; · iexists f3; iexact S3
  isplitl [S4]; · iexists f4; iexact S4
  isplitl [S5]; · iexists f5; iexact S5
  iexists f6; iexact S6

end Cert.Hand
-- ==== Proof.Seg.lean ====
/-
  A kernel region whose marked windows are read relationally, entered from every unscoped buffer and left with every unscoped buffer.
-/
module

public import proofs.«01_k».proof.Proof.Gen.KernelIdeal.Regions
public import Idealize.ShloMosaic.Lib.Pipeline.RegionArraysS
public import Idealize.ShloMosaic.Lib.Pipeline.ArrRel
public import Idealize.ShloMosaic.Lib.Pipeline.DatRel
public import Idealize.ShloMosaic.Lib.ValueIdxCore
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel arrRef arrRefs ucRefs pin)

variable {F : FTy → Type} [FloatOps F]

local notation "𝕄" => MT nD τ sig Unit (Elt F) ℕ (UR sig nD τ) ℕ

section

variable (pd : (p : Fin 2) → (c : Dev nD) → Dat τ (Elt F) Unit ℕ (UR sig nD τ) ℕ (pin (pcfgs (F := F)) adm p) c)
  (fg : (p : Fin 2) → Fin (pin (pcfgs (F := F)) adm p).W → Bool)
  (Rl : (p : Fin 2) → (c : Dev nD) → (w : Fin (pin (pcfgs (F := F)) adm p).W) → Fin (pin (pcfgs (F := F)) adm p).N
    → (((pin (pcfgs (F := F)) adm p).win w).block.Idx → Elt F ((pin (pcfgs (F := F)) adm p).win w).elt) → Prop)

/-- Both pipelines' data, the marked windows read relationally. -/
abbrev rels (p : Fin 2) (c : Dev nD) : RDat τ (Elt F) Unit ℕ (UR sig nD τ) ℕ (pin (pcfgs (F := F)) adm p) c := (pd p c).toRRel (fg p) (Rl p c)

/-- No wait of this program needs a level. -/
abbrev lvs : GSem nD τ sig → Finset Unit := fun _ => ∅
abbrev lvl : GSem nD τ sig → Unit → ℕ := fun _ _ => 0

/-- What core `c` owes: nothing. -/
abbrev dues (c : Dev nD) : sProp 𝕄 := iprop(∃ Wd, owes (c : Thread nD τ) (0 : CellTallies nD τ sig Unit) Wd)

/-- Contents a region may leave: each array as the data relate it to its entry, every other buffer as it was. -/
def Leaves (p : Fin 2) (c : Dev nD) (V V' : Valuation τ sig (Elt F)) : Prop :=
  (∀ w, (rels pd fg Rl p c).ArrAt w (pin (pcfgs (F := F)) adm p).N (V' (Proc.devRef .tc (arrRef (pin (pcfgs (F := F)) adm p).spec w))))
    ∧ ∀ b ∈ ucRefs τ sig \ arrRefs (pin (pcfgs (F := F)) adm p).spec, V' b = V b

/-- Any contents of the arrays, beside the other buffers unchanged, are some valuation's. -/
theorem exists_leaves (p : Fin 2) (hinj : Function.Injective (arrRef (pin (pcfgs (F := F)) adm p).spec)) (c : Dev nD) (V : Valuation τ sig (Elt F))
    (G : (w : Fin (pin (pcfgs (F := F)) adm p).W) → Buf (Elt F) (((pin (pcfgs (F := F)) adm p).win w).arr.view.loc (c.tc : Thread nD τ)))
    (hG : ∀ w, (rels pd fg Rl p c).ArrAt w (pin (pcfgs (F := F)) adm p).N (G w)) :
    ∃ V' : Valuation τ sig (Elt F), Leaves pd fg Rl p c V V' ∧ ∀ w, G w = V' (Proc.devRef .tc (arrRef (pin (pcfgs (F := F)) adm p).spec w)) := by
  obtain ⟨after, -, hA⟩ := RDat.ArrAt.exists_exact_all hG
  have e (w) : Pipeline.afterRegion ((rels pd fg Rl p c).withAfter after) V (Proc.devRef .tc (arrRef (pin (pcfgs (F := F)) adm p).spec w)) = G w :=
    (Pipeline.afterRegion_arr _ V hinj w).trans (hA w).symm
  exact ⟨Pipeline.afterRegion ((rels pd fg Rl p c).withAfter after) V, ⟨fun w => by rw [e]; exact hG w, Pipeline.afterRegion_off _ V (ucRefs τ sig)⟩, fun w => (e w).symm⟩

/-- An array the region only reads, or a buffer that is none of its arrays, is left as it was. -/
theorem Leaves.keeps {p : Fin 2} {c : Dev nD} {V V' : Valuation τ sig (Elt F)} (h : Leaves pd fg Rl p c V V')
    (hA : ∀ w, (pd p c).A w = V (Proc.devRef .tc (arrRef (pin (pcfgs (F := F)) adm p).spec w))) (r : Ref sig .tc)
    (hr : (Proc.devRef .tc r : DevRef τ sig) ∈ ucRefs τ sig)
    (hin : ∀ w, arrRef (pin (pcfgs (F := F)) adm p).spec w = r → ((pin (pcfgs (F := F)) adm p).win w).isOut = false) :
    V' (Proc.devRef .tc r) = V (Proc.devRef .tc r) := by
  by_cases hw : ∃ w, arrRef (pin (pcfgs (F := F)) adm p).spec w = r
  · obtain ⟨w, rfl⟩ := hw
    obtain ⟨after, -, hG⟩ := RDat.ArrAt.exists_exact_all h.1
    exact (hG w).trans ((((rels pd fg Rl p c).withAfter after).arrAt_in w (hin w rfl) _).trans (hA w))
  · refine h.2 _ (Finset.mem_sdiff.mpr ⟨hr, fun hm => ?_⟩)
    obtain ⟨b, hb, e⟩ := Finset.mem_map.mp hm
    obtain ⟨w, -, rfl⟩ := Finset.mem_image.mp hb
    exact hw ⟨w, Proc.devRef_injective _ e⟩

/-- The region of pipeline `p`, entered from the unscoped buffers at `W c`. -/
def region (p : Fin 2) (kit : Pipeline.PLaunchFacts (nD := nD) (τ := τ) (pcfgs (F := F)) p) (hK : (pcfgs (F := F) p).pre.K = 0)
    (W : Dev nD → Valuation τ sig (Elt F))
    (hA : ∀ c w, (pd p c).A w = W c (Proc.devRef .tc (arrRef (pin (pcfgs (F := F)) adm p).spec w)))
    (hsub : arrRefs (τ := τ) (pin (pcfgs (F := F)) adm p).spec ⊆ ucRefs τ sig)
    (howed : ∀ c t, (pd p c).owed t = 0) (hrec : ∀ c, (pd p c).recorded 0 = Set.univ) (hshare : ∀ c w, (pd p c).share w = fullShare)
    (hbody : ∀ c, BodyObligationRel (pd p c) (defs₀ (F := F)) Variants.none () Set.univ (fg p) (Rl p c))
    (hin : ∀ c, (Pipeline.scopedRest (pin (pcfgs (F := F)) adm p).spec c : sProp 𝕄) ⊢ (pd p c).Φ 0)
    (hout : ∀ c, (pd p c).Φ (Fin.last (pin (pcfgs (F := F)) adm p).N) ⊢ (Pipeline.scopedRest (pin (pcfgs (F := F)) adm p).spec c : sProp 𝕄)) :
    RDat.RegionSeg (pcfgs (F := F)) adm (rels pd fg Rl) () (defs₀ (F := F)) Variants.none lvs lvl p where
  win := kit.to₀.win
  block_pos := kit.to₀.block_pos
  stage_whole := kit.to₀.stage_whole
  K := PEmpty
  osem k := k.elim
  ho := Pipeline.OwnSemFacts.none _
  hbody c := (hbody c).toRRel
  hwaits := RDat.hwaits_of_owed_zero (pcfgs (F := F)) adm (rels pd fg Rl) () lvs lvl p howed
  pre c := iprop(StableHlo.held (c.tc : Thread nD τ) (ucRefs τ sig) (W c) ∗ dues c)
  post c := iprop(∃ V', ⌜Leaves pd fg Rl p c (W c) V'⌝ ∗ StableHlo.held (c.tc : Thread nD τ) (ucRefs τ sig) V' ∗ dues c)
  X _ := iprop(emp)
  Y _ := iprop(emp)
  Z c := StableHlo.held (c.tc : Thread nD τ) (ucRefs τ sig \ arrRefs (pin (pcfgs (F := F)) adm p).spec) (W c)
  hentry c := by
    show _ ⊢ |={Set.univ}=> iprop((pd p c).arrays (pd p c).A ∗ Pipeline.prefHeld (pcfgs (F := F) p).pre c (fun _ => fullShare) (adm p).1
        ∗ (pd p c).owesAt () 0 ∗ _ ∗ _)
    rw [Pipeline.prefHeld_of_none _ hK, Pipeline.arrays_held (pcfgs (F := F)) adm pd p kit c (hshare c) (pd p c).A (W c) (hA c),
      StableHlo.held_sub_split (c.tc : Thread nD τ) hsub (W c)]
    iintro ⟨⟨⟨Ha, Hr⟩, HO⟩, -, -⟩
    imodintro
    isplitl [Ha]; · iexact Ha
    isplitr; · iempintro
    isplitl [HO]
    · unfold Dat.owesAt Pipeline.owesWithin Dat.bound
      rw [howed c 0, hrec c]
      icases HO with ⟨%Wd, HO⟩; iexists Wd; isplitr; · ipureintro; exact fun _ _ => Or.inl trivial
      iexact HO
    isplitr; · iempintro
    iexact Hr
  hin c := (show _ ⊢ (Pipeline.scopedRest (pin (pcfgs (F := F)) adm p).spec c : sProp 𝕄) by iintro ⟨-, -, Hr⟩; iexact Hr).trans (hin c)
  hout c := (hout c).trans (by
    rw [Pipeline.ownSems0_none]
    iintro Hr
    isplitr; · iempintro
    isplitr; · iempintro
    iexact Hr)
  hexit c := by
    show iprop((rels pd fg Rl p c).arraysAt (pin (pcfgs (F := F)) adm p).N ∗ (pd p c).owesAt () (Fin.last (pin (pcfgs (F := F)) adm p).N) ∗ _ ∗ _) ⊢ _
    have hex : ((rels pd fg Rl p c).arraysAt (pin (pcfgs (F := F)) adm p).N : sProp 𝕄)
        ⊢ iprop(∃ A, ⌜∀ w, (rels pd fg Rl p c).ArrAt w (pin (pcfgs (F := F)) adm p).N (A w)⌝ ∗ (pd p c).arrays A) := by
      unfold RDat.arraysAt Dat.arrays
      refine (BI.bigSep_exists_pi Finset.univ _).trans ?_
      iintro ⟨%A, H⟩
      ihave H' := (BI.bigSep_pure_sep Finset.univ (fun w => (rels pd fg Rl p c).ArrAt w (pin (pcfgs (F := F)) adm p).N (A w)) _) $$ H
      icases H' with ⟨%hA, H⟩
      iexists A
      isplitr; · ipureintro; exact fun w => hA w (Finset.mem_univ w)
      iexact H
    iintro ⟨Ha, HO, -, Hr⟩
    ihave Ha := hex $$ Ha
    icases Ha with ⟨%A, %hA, Ha⟩
    obtain ⟨V', hV', hAV⟩ := exists_leaves pd fg Rl p kit.win.arr_inj c (W c) A hA
    imodintro
    iexists V'
    isplitr; · ipureintro; exact hV'
    have hj : (StableHlo.held (c.tc : Thread nD τ) (ucRefs τ sig) V' : sProp 𝕄)
        = iprop((pd p c).arrays A ∗ StableHlo.held (c.tc : Thread nD τ) (ucRefs τ sig \ arrRefs (pin (pcfgs (F := F)) adm p).spec) (W c)) := by
      rw [StableHlo.held_sub_split (c.tc : Thread nD τ) hsub V', StableHlo.held_congr (c.tc : Thread nD τ) (V := V') (V' := W c) hV'.2,
        Pipeline.arrays_held (pcfgs (F := F)) adm pd p kit c (hshare c) A V' hAV]
    rw [hj]
    isplitl [Ha Hr]
    · isplitl [Ha]; · iexact Ha
      iexact Hr
    unfold Dat.owesAt Pipeline.owesWithin
    rw [howed c (Fin.last _)]
    icases HO with ⟨%Wd, -, HO⟩; iexists Wd; iexact HO

end

end Cert.Hand
-- ==== Proof.Run.lean ====
/-
  The program's run, at any floats: its arguments keep their contents and its result is the one the two regions leave.
-/
module

public import proofs.«01_k».proof.Proof.Region1
public import proofs.«01_k».proof.Proof.Seg
public import Idealize.ShloMosaic.Lib.Pipeline.Value
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel arrRef arrRefs ucRefs pin)

variable {F : FTy → Type} [FloatOps F]

local notation "𝕄" => MT nD τ sig Unit (Elt F) ℕ (UR sig nD τ) ℕ

variable (m : (ℓ : Loc nD τ sig) → Buf (Elt F) ℓ)

/-- The buffers as the first region leaves them. -/
def W2 (c : Dev nD) : Valuation τ sig (Elt F) := Pipeline.afterRegion (dats0 (V1 m) c) (V1 m c)

/-- Both regions' data on the run from `m`. -/
def pdats : (p : Fin 2) → (c : Dev nD) → Dat τ (Elt F) Unit ℕ (UR sig nD τ) ℕ (pin (pcfgs (F := F)) adm p) c := fun p c => match p with
  | ⟨0, _⟩ => dats0 (V1 m) c
  | ⟨1, _⟩ => dats1 (W2 m) c

def marks : (p : Fin 2) → Fin (pin (pcfgs (F := F)) adm p).W → Bool := fun p => match p with
  | ⟨0, _⟩ => marks0
  | ⟨1, _⟩ => marks1

def lefts : (p : Fin 2) → (c : Dev nD) → (w : Fin (pin (pcfgs (F := F)) adm p).W) → Fin (pin (pcfgs (F := F)) adm p).N
    → (((pin (pcfgs (F := F)) adm p).win w).block.Idx → Elt F ((pin (pcfgs (F := F)) adm p).win w).elt) → Prop := fun p c => match p with
  | ⟨0, _⟩ => fun _ _ _ => True
  | ⟨1, _⟩ => leaves1 (W2 m) c

theorem inj0 : Function.Injective (arrRef spec0) := launch0.win.arr_inj
theorem sub0 : arrRefs (τ := τ) (pin (pcfgs (F := F)) adm 0).spec ⊆ ucRefs τ sig := Pipeline.arrRefs_sub_ucRefs _ (show ∀ w, (arrRef spec0 w).isScoped = false by decide)
theorem sub1 : arrRefs (τ := τ) (pin (pcfgs (F := F)) adm 1).spec ⊆ ucRefs τ sig := Pipeline.arrRefs_sub_ucRefs _ (show ∀ w, (arrRef spec1 w).isScoped = false by decide)

def seg1 : RDat.RegionSeg (pcfgs (F := F)) adm (rels (pdats m) marks (lefts m)) () (defs₀ (F := F)) Variants.none lvs lvl 0 :=
  region (pdats m) marks (lefts m) 0 launch0.toP rfl (V1 m) (fun c w => dats0_A (V1 m) c w) sub0 (fun _ _ => rfl) (fun _ => rfl) (fun c => (dats0 (V1 m) c).share_full fun _ => rfl)
    (fun c => obligation0 (V1 m) c _) (fun c => enter0 (V1 m) c) (fun c => leave0 (V1 m) c)

def seg2 : RDat.RegionSeg (pcfgs (F := F)) adm (rels (pdats m) marks (lefts m)) () (defs₀ (F := F)) Variants.none lvs lvl 1 :=
  region (pdats m) marks (lefts m) 1 launch1.toP rfl (W2 m) (fun c w => dats1_A (W2 m) c w) sub1 (fun _ _ => rfl) (fun _ => rfl) (fun c => (dats1 (W2 m) c).share_full fun _ => rfl)
    (fun c => obligation1 (W2 m) c) (fun c => enter1 (W2 m) c) (fun c => leave1 (W2 m) c)

/-- The first region leaves exactly `W2`. -/
theorem leaves0_eq (c : Dev nD) (V' : Valuation τ sig (Elt F)) (h : Leaves (pdats m) marks (lefts m) 0 c (V1 m c) V') :
    ∀ b ∈ ucRefs τ sig, V' b = W2 m c b := fun b hb => by
  by_cases hm : b ∈ arrRefs (τ := τ) (pin (pcfgs (F := F)) adm 0).spec
  · obtain ⟨r, hr, rfl⟩ := Finset.mem_map.mp hm
    obtain ⟨w, -, rfl⟩ := Finset.mem_image.mp hr
    exact (Dat.toR_arrAt (dats0 (V1 m) c) w _ _ (h.1 w)).trans (Pipeline.afterRegion_arr (dats0 (V1 m) c) (V1 m c) inj0 w).symm
  · exact (h.2 b (Finset.mem_sdiff.mpr ⟨hb, hm⟩)).trans
      (Pipeline.afterRegion_off (dats0 (V1 m) c) (V1 m c) (ucRefs τ sig) b (Finset.mem_sdiff.mpr ⟨hb, hm⟩)).symm

/-- A buffer neither region writes ends as the host operations left it. -/
theorem ends_keeps (c : Dev nD) (V' : Valuation τ sig (Elt F)) (h : Leaves (pdats m) marks (lefts m) 1 c (W2 m c) V') (r : Ref sig .tc)
    (hr : (Proc.devRef .tc r : DevRef τ sig) ∈ ucRefs τ sig) (h0 : ∀ w, arrRef spec0 w = r → (cfg0.win w).isOut = false)
    (h1 : ∀ w, arrRef spec1 w = r → (cfg1.win w).isOut = false) : V' (Proc.devRef .tc r) = V1 m c (Proc.devRef .tc r) :=
  (h.keeps (pdats m) marks (lefts m) (fun w => dats1_A (W2 m) c w) r hr h1).trans
    (Pipeline.afterRegion_keeps (dats0 (V1 m) c) (V1 m c) inj0 (fun w => dats0_A (V1 m) c w) r h0)

theorem mem_uc {r : Ref sig .tc} (h : r.isScoped = false) : (Proc.devRef .tc r : DevRef τ sig) ∈ ucRefs τ sig :=
  Finset.mem_filter.mpr ⟨StableHlo.devRef_mem_tcRefs r, fun h' => Bool.false_ne_true (h.symm.trans h')⟩

theorem ends_arg0 (c : Dev nD) (V' : Valuation τ sig (Elt F)) (h : Leaves (pdats m) marks (lefts m) 1 c (W2 m c) V') :
    V' main_arg0 = m ((c : Thread nD τ).loc main_arg0) :=
  (ends_keeps m c V' h main_arg0 (mem_uc (by decide)) (by decide) (by decide)).trans ((V1_of m c main_arg0 (by decide)).trans rfl)
theorem ends_arg1 (c : Dev nD) (V' : Valuation τ sig (Elt F)) (h : Leaves (pdats m) marks (lefts m) 1 c (W2 m c) V') :
    V' main_arg1 = m ((c : Thread nD τ).loc main_arg1) :=
  (ends_keeps m c V' h main_arg1 (mem_uc (by decide)) (by decide) (by decide)).trans ((V1_of m c main_arg1 (by decide)).trans rfl)
theorem ends_arg2 (c : Dev nD) (V' : Valuation τ sig (Elt F)) (h : Leaves (pdats m) marks (lefts m) 1 c (W2 m c) V') :
    V' main_arg2 = m ((c : Thread nD τ).loc main_arg2) :=
  (ends_keeps m c V' h main_arg2 (mem_uc (by decide)) (by decide) (by decide)).trans ((V1_of m c main_arg2 (by decide)).trans rfl)
theorem ends_arg3 (c : Dev nD) (V' : Valuation τ sig (Elt F)) (h : Leaves (pdats m) marks (lefts m) 1 c (W2 m c) V') :
    V' main_arg3 = m ((c : Thread nD τ).loc main_arg3) :=
  (ends_keeps m c V' h main_arg3 (mem_uc (by decide)) (by decide) (by decide)).trans ((V1_of m c main_arg3 (by decide)).trans rfl)
theorem ends_arg4 (c : Dev nD) (V' : Valuation τ sig (Elt F)) (h : Leaves (pdats m) marks (lefts m) 1 c (W2 m c) V') :
    V' main_arg4 = m ((c : Thread nD τ).loc main_arg4) :=
  (ends_keeps m c V' h main_arg4 (mem_uc (by decide)) (by decide) (by decide)).trans ((V1_of m c main_arg4 (by decide)).trans rfl)
theorem ends_arg5 (c : Dev nD) (V' : Valuation τ sig (Elt F)) (h : Leaves (pdats m) marks (lefts m) 1 c (W2 m c) V') :
    V' main_arg5 = m ((c : Thread nD τ).loc main_arg5) :=
  (ends_keeps m c V' h main_arg5 (mem_uc (by decide)) (by decide) (by decide)).trans ((V1_of m c main_arg5 (by decide)).trans rfl)
theorem ends_arg6 (c : Dev nD) (V' : Valuation τ sig (Elt F)) (h : Leaves (pdats m) marks (lefts m) 1 c (W2 m c) V') :
    V' main_arg6 = m ((c : Thread nD τ).loc main_arg6) :=
  (ends_keeps m c V' h main_arg6 (mem_uc (by decide)) (by decide) (by decide)).trans ((V1_of m c main_arg6 (by decide)).trans rfl)
theorem ends_arg7 (c : Dev nD) (V' : Valuation τ sig (Elt F)) (h : Leaves (pdats m) marks (lefts m) 1 c (W2 m c) V') :
    V' main_arg7 = m ((c : Thread nD τ).loc main_arg7) :=
  (ends_keeps m c V' h main_arg7 (mem_uc (by decide)) (by decide) (by decide)).trans ((V1_of m c main_arg7 (by decide)).trans rfl)
theorem ends_arg8 (c : Dev nD) (V' : Valuation τ sig (Elt F)) (h : Leaves (pdats m) marks (lefts m) 1 c (W2 m c) V') :
    V' main_arg8 = m ((c : Thread nD τ).loc main_arg8) :=
  (ends_keeps m c V' h main_arg8 (mem_uc (by decide)) (by decide) (by decide)).trans ((V1_of m c main_arg8 (by decide)).trans rfl)

-- the run theorem's implicit arguments are found by unifying its conclusion with this one
set_option backward.isDefEq.respectTransparency.types false in
/-- The run: the arguments keep their contents, the counters end at zero, and the result is one the second region may leave. -/
theorem run_main (ρ : Dev nD → PrngReg) :
    θ_run defs (onTc (τ := τ) (main (F := F))) ⟨m, fun _ => 0, ρ⟩ (fun r => (∀ c : Dev nD,
      (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))
      ∧ ∃ V', Leaves (pdats m) marks (lefts m) 1 c (W2 m c) V' ∧ r.2.mem ((c.tc : Thread nD τ).loc main_v6) = V' main_v6)
      ∧ r.2.sem = fun _ => 0) := by
  have hone (c : Dev nD) : iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ iprop(emp))
      ⊢ (iprop(StableHlo.held (c : Thread nD τ) (ucRefs τ sig) (V0 m c) ∗ dues c) : sProp 𝕄) := by
    rw [← Pipeline.unscopedBufs_held (Ix := Unit) (Name := ℕ) (U := UR sig nD τ) (Lvl := ℕ) c (V0 m c)]
    iintro ⟨Hb, -, HO, -, -, -⟩
    isplitl [Hb]; · iexact Hb
    iexists _; iexact HO
  have hgo (c : Dev nD) : iprop(StableHlo.held (c.tc : Thread nD τ) (ucRefs τ sig) (V1 m c) ∗ dues c) ⊢ (seg1 m).pre c := .rfl
  refine RDat.θ_run_regions_kit_dev_sems (pcfgs (F := F)) adm (rels (pdats m) marks (lefts m)) () cellOf_inj emb₁ defs₀ Variants.none lvs lvl m ρ main
    (fun _ => [.host (seg0 m Variants.none lvs lvl (fun _ => dues)), .region (seg1 m), .region (seg2 m)])
    (fun c Q => by
      rewrite [main_chain c, RDat.Seg.run_eq_chain]
      exact .rfl)
    (fun c => by simp only [RDat.Seg.pipes_host, RDat.Seg.pipes_region, RDat.Seg.pipes_nil]; decide) (O₀ := fun _ => 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ dues c))
    (Tₙ := fun c => iprop(∃ V', ⌜Leaves (pdats m) marks (lefts m) 1 c (W2 m c) V'⌝ ∗ StableHlo.held (c : Thread nD τ) (ucRefs τ sig) V'))
    (hch := fun c => ⟨.rfl, hgo c, ?_, ?_⟩) (hinit := ?_)
    (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
      ∧ ∃ V', Leaves (pdats m) marks (lefts m) 1 c (W2 m c) V' ∧ s.mem ((c.tc : Thread nD τ).loc main_v6) = V' main_v6)
    (hfin := fun c s' => ?_) (hQ := fun _ h hz => ⟨h, funext fun g => hz g (.inr (regions_no_unscoped g.2))⟩)
  · -- between the regions
    show iprop(∃ V', ⌜Leaves (pdats m) marks (lefts m) 0 c (V1 m c) V'⌝ ∗ StableHlo.held (c.tc : Thread nD τ) (ucRefs τ sig) V' ∗ dues c)
      ⊢ iprop(StableHlo.held (c.tc : Thread nD τ) (ucRefs τ sig) (W2 m c) ∗ dues c)
    iintro ⟨%V', %h, Hh, HO⟩
    have e : (StableHlo.held (c.tc : Thread nD τ) (ucRefs τ sig) (W2 m c) : sProp 𝕄) = StableHlo.held (c.tc : Thread nD τ) (ucRefs τ sig) V' :=
      (StableHlo.held_congr (c.tc : Thread nD τ) (leaves0_eq m c V' h)).symm
    rw [e]
    isplitl [Hh]; · iexact Hh
    iexact HO
  · -- after the last
    show iprop(∃ V', ⌜Leaves (pdats m) marks (lefts m) 1 c (W2 m c) V'⌝ ∗ StableHlo.held (c.tc : Thread nD τ) (ucRefs τ sig) V' ∗ dues c)
      ⊢ iprop((∃ V', ⌜Leaves (pdats m) marks (lefts m) 1 c (W2 m c) V'⌝ ∗ StableHlo.held (c : Thread nD τ) (ucRefs τ sig) V') ∗ dues c)
    iintro ⟨%V', %h, Hh, HO⟩
    isplitl [Hh]
    · iexists V'; isplitr; · ipureintro; exact h
      iexact Hh
    iexact HO
  · -- the launch
    iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)))
        ⊢ (bigSep Finset.univ fun c : Dev nD => iprop(StableHlo.held (c : Thread nD τ) (ucRefs τ sig) (V0 m c) ∗ dues c) : sProp 𝕄) from
      bigSep_mono fun c _ => hone c)
    iexact H
  · -- the end
    unfold StableHlo.held
    iintro ⟨⟨%V', %h, Hh⟩, HSI⟩
    ihave Hr := (pointsTo_read_all (ucRefs τ sig) (fun b => ((c : Thread nD τ).1, b)) V' s') $$ [Hh HSI]
    · isplitl [Hh] <;> iassumption
    icases Hr with ⟨%hr, HSI⟩
    imodintro
    isplitr
    · ipureintro
      have hrd (r : Ref sig .tc) (hs : r.isScoped = false) : s'.mem.mem ((c.tc : Thread nD τ).loc r) = V' r := hr (Proc.devRef .tc r) (mem_uc hs)
      exact ⟨⟨(hrd main_arg0 (by decide)).trans (ends_arg0 m c V' h), (hrd main_arg1 (by decide)).trans (ends_arg1 m c V' h), (hrd main_arg2 (by decide)).trans (ends_arg2 m c V' h), (hrd main_arg3 (by decide)).trans (ends_arg3 m c V' h), (hrd main_arg4 (by decide)).trans (ends_arg4 m c V' h), (hrd main_arg5 (by decide)).trans (ends_arg5 m c V' h), (hrd main_arg6 (by decide)).trans (ends_arg6 m c V' h), (hrd main_arg7 (by decide)).trans (ends_arg7 m c V' h), (hrd main_arg8 (by decide)).trans (ends_arg8 m c V' h)⟩, V', h, hrd main_v6 (by decide)⟩
    · iexact HSI

end Cert.Hand
-- ==== Proof.Result.lean ====
/-
  The arrays the two regions leave, element by element: an element of a flushed array is the one its block held when that block was
  last written back, and a block read from an array is that array's elements.
-/
module

public import proofs.«01_k».proof.Proof.Run
public import Idealize.ShloMosaic.Lib.Pipeline.ValueKit.Geometry
public import Idealize.ShloMosaic.Lib.Claim

@[expose] public section

set_option maxRecDepth 16384

noncomputable section

namespace Cert.Hand

open Cert.KernelIdeal Cert.KernelIdeal.Gen
open Idealize.ShloMosaic Idealize.ShloMosaic.TcCoe Idealize.ShloMosaic.Tactic Idealize.ShloMosaic.ValueIdx
open Idealize.ShloMosaic.Pipeline (Dat RDat arrRef arrRefs ucRefs pin)
open Idealize.SL Idealize.SL.RA

variable {F : FTy → Type} [FloatOps F]

/-- An element of block `t` that no later write-back touches holds, at the end, what block `t` held. -/
theorem arrAt_last {cfg : Pipeline.Cfg sig Λ₀} {c : Dev nD} (dat : Dat τ (Elt F) Unit ℕ (UR sig nD τ) ℕ cfg c) (w : Fin cfg.W) (t : Fin cfg.N)
    (hf : (cfg.win w).flush t = true) (y : ((cfg.win w).xblock (cfg.grid.coords t)).Idx)
    (hlater : ∀ t' : Fin cfg.N, t.val < t'.val → ((cfg.win w).blk t).view.emb y ∉ ((cfg.win w).blk t').view.set) :
    ∀ n : ℕ, t.val < n → dat.arrAt w n (((cfg.win w).blk t).view.emb y)
      = _root_.cast (congrArg (Elt F) ((cfg.win w).blk t).view.elt_eq.symm) (dat.flushed w t y)
  | 0, h => absurd h (Nat.not_lt_zero _)
  | n + 1, h => by
    rw [dat.arrAt_succ_apply]
    by_cases hn : n < cfg.N
    · rw [dif_pos hn]
      by_cases htn : t.val = n
      · obtain rfl : t = ⟨n, hn⟩ := Fin.ext htn
        rw [if_pos hf, View.write_emb_of_mem _ _ (Finset.mem_univ y)]
      · have hlt : t.val < n := by omega
        by_cases hfn : (cfg.win w).flush ⟨n, hn⟩ = true
        · rw [if_pos hfn, View.write_of_not_mem _ _ _ (by rw [View.setOn_univ]; exact hlater ⟨n, hn⟩ hlt)]
          exact arrAt_last dat w t hf y hlater n hlt
        · rw [if_neg hfn]
          exact arrAt_last dat w t hf y hlater n hlt
    · rw [dif_neg hn]
      exact arrAt_last dat w t hf y hlater n (by have := t.isLt; omega)

/-! ## Where the blocks lie -/

theorem at0_4 : ∀ t : Fin cfg0.N, (cfg0.win 4).index t 0 = t.val / 4 ∧ (cfg0.win 4).index t 1 = t.val % 4 ∧ (cfg0.win 4).index t 2 = 0 := by decide
theorem at0_5 : ∀ t : Fin cfg0.N, (cfg0.win 5).index t 0 = t.val / 4 ∧ (cfg0.win 5).index t 1 = t.val % 4 ∧ (cfg0.win 5).index t 2 = 0 := by decide
theorem at0_1 : ∀ t : Fin cfg0.N, (cfg0.win 1).index t 0 = t.val / 4 ∧ (cfg0.win 1).index t 1 = t.val % 4 ∧ (cfg0.win 1).index t 2 = 0 := by decide
theorem at1_0 : ∀ t : Fin cfg1.N, (cfg1.win 0).index t 0 = t.val / 4 ∧ (cfg1.win 0).index t 1 = t.val % 4 ∧ (cfg1.win 0).index t 2 = 0 := by decide
theorem at1_1 : ∀ t : Fin cfg1.N, (cfg1.win 1).index t 0 = t.val / 4 ∧ (cfg1.win 1).index t 1 = 0 ∧ (cfg1.win 1).index t 2 = 0 := by decide
theorem at1_7 : ∀ t : Fin cfg1.N, (cfg1.win 7).index t 0 = t.val % 4 ∧ (cfg1.win 7).index t 1 = 0 := by decide
theorem at0_rest : ∀ t : Fin cfg0.N, ((∀ a, (cfg0.win 0).index t a = 0) ∧ (∀ a, (cfg0.win 2).index t a = 0) ∧ (∀ a, (cfg0.win 3).index t a = 0)) := by decide
theorem at1_rest : ∀ t : Fin cfg1.N, ((∀ a, (cfg1.win 2).index t a = 0) ∧ (∀ a, (cfg1.win 3).index t a = 0) ∧ (∀ a, (cfg1.win 4).index t a = 0)
    ∧ (∀ a, (cfg1.win 5).index t a = 0) ∧ (∀ a, (cfg1.win 6).index t a = 0)) := by decide

/-- The point of graph `g` and row band `r`, in either pipeline. -/
def pt0 (g : Fin 3) (r : Fin 4) : Fin cfg0.N := ⟨4 * g.val + r.val, by rw [show cfg0.N = 12 from N_0]; omega⟩
def pt1 (g : Fin 3) (r : Fin 4) : Fin cfg1.N := ⟨4 * g.val + r.val, by rw [show cfg1.N = 12 from N_1]; omega⟩

theorem gr0_pt (g : Fin 3) (r : Fin 4) : gr0 (grid0.coords (pt0 g r)) = g := by
  rw [gr0_coords]; exact Fin.ext (by show (4 * g.val + r.val) / 4 = g.val; omega)
theorem gr1_pt (g : Fin 3) (r : Fin 4) : gr1 (grid1.coords (pt1 g r)) = g := by
  rw [gr1_coords]; exact Fin.ext (by show (4 * g.val + r.val) / 4 = g.val; omega)
theorem rep0_pt (g : Fin 3) (r : Fin 4) : rep0 (pt0 g r) = pt0 g 0 := Fin.ext (by show 4 * ((4 * g.val + r.val) / 4) = 4 * g.val + 0; omega)
theorem rep1_pt (g : Fin 3) (r : Fin 4) : rep1 (pt1 g r) = pt1 g 0 := Fin.ext (by show 4 * ((4 * g.val + r.val) / 4) = 4 * g.val + 0; omega)
theorem back8_pt (r : Fin 4) : back1 8 (pt1 2 r) = pt1 0 r := Fin.ext (by show 4 * 2 + r.val - 8 = 4 * 0 + r.val; omega)
theorem back4_pt (r : Fin 4) : back1 4 (pt1 2 r) = pt1 1 r := Fin.ext (by show 4 * 2 + r.val - 4 = 4 * 1 + r.val; omega)

/-! ## Reading blocks -/

section reads

variable (W : Dev nD → Valuation τ sig (Elt F)) (c : Dev nD)

theorem in0_x_eq (t : Fin cfg0.N) : in0_x W c t = W c (Proc.devRef .tc main_arg0) :=
  funext fun y => congrArg (W c (Proc.devRef .tc main_arg0)) (funext fun a => Fin.ext ((cfg0.win 0).rect_emb_val_of_index_zero t a ((at0_rest t).1 a) y))
theorem in0_w1_eq (t : Fin cfg0.N) : in0_w1 W c t = W c (Proc.devRef .tc main_arg2) :=
  funext fun y => congrArg (W c (Proc.devRef .tc main_arg2)) (funext fun a => Fin.ext ((cfg0.win 2).rect_emb_val_of_index_zero t a ((at0_rest t).2.1 a) y))
theorem in0_b1_eq (t : Fin cfg0.N) : in0_b1 W c t = W c (Proc.devRef .tc main_v0) :=
  funext fun y => congrArg (W c (Proc.devRef .tc main_v0)) (funext fun a => Fin.ext ((cfg0.win 3).rect_emb_val_of_index_zero t a ((at0_rest t).2.2 a) y))
theorem in1_w2_eq (t : Fin cfg1.N) : in1_w2 W c t = W c (Proc.devRef .tc main_v4) :=
  funext fun y => congrArg (W c (Proc.devRef .tc main_v4)) (funext fun a => Fin.ext ((cfg1.win 2).rect_emb_val_of_index_zero t a ((at1_rest t).1 a) y))
theorem in1_b2_eq (t : Fin cfg1.N) : in1_b2 W c t = W c (Proc.devRef .tc main_v1) :=
  funext fun y => congrArg (W c (Proc.devRef .tc main_v1)) (funext fun a => Fin.ext ((cfg1.win 3).rect_emb_val_of_index_zero t a ((at1_rest t).2.1 a) y))
theorem in1_a_eq (t : Fin cfg1.N) : in1_a W c t = W c (Proc.devRef .tc main_v2) :=
  funext fun y => congrArg (W c (Proc.devRef .tc main_v2)) (funext fun a => Fin.ext ((cfg1.win 4).rect_emb_val_of_index_zero t a ((at1_rest t).2.2.1 a) y))
theorem in1_wl_eq (t : Fin cfg1.N) : in1_wl W c t = W c (Proc.devRef .tc main_arg7) :=
  funext fun y => congrArg (W c (Proc.devRef .tc main_arg7)) (funext fun a => Fin.ext ((cfg1.win 5).rect_emb_val_of_index_zero t a ((at1_rest t).2.2.2.1 a) y))
theorem in1_bl_eq (t : Fin cfg1.N) : in1_bl W c t = W c (Proc.devRef .tc main_v3) :=
  funext fun y => congrArg (W c (Proc.devRef .tc main_v3)) (funext fun a => Fin.ext ((cfg1.win 6).rect_emb_val_of_index_zero t a ((at1_rest t).2.2.2.2 a) y))

theorem in0_adj_apply (g : Fin 3) (r : Fin 4) (p : Fin 1024) (k : Fin 4096) :
    in0_adj W c (pt0 g r) (ix3 (0 : Fin 1) p k) = W c (Proc.devRef .tc main_arg1) (ix3 g (bandRow r p) k) := by
  obtain ⟨h0, h1, h2⟩ := at0_1 (pt0 g r)
  refine congrArg (W c (Proc.devRef .tc main_arg1)) (funext fun a => Fin.ext ?_)
  match a with
  | ⟨0, _⟩ =>
    refine ((cfg0.win 1).rect_emb_val (pt0 g r) (ix3 (0 : Fin 1) p k) (0 : Fin 3)).trans ?_
    rw [h0]; show (4 * g.val + r.val) / 4 * 1 + 0 = g.val; omega
  | ⟨1, _⟩ =>
    refine ((cfg0.win 1).rect_emb_val (pt0 g r) (ix3 (0 : Fin 1) p k) (1 : Fin 3)).trans ?_
    rw [h1]; show (4 * g.val + r.val) % 4 * 1024 + p.val = 1024 * r.val + p.val; omega
  | ⟨2, _⟩ =>
    refine ((cfg0.win 1).rect_emb_val (pt0 g r) (ix3 (0 : Fin 1) p k) (2 : Fin 3)).trans ?_
    rw [h2]; show 0 * 4096 + k.val = k.val; omega

theorem in1_q_apply (g : Fin 3) (r : Fin 4) (p : Fin 1024) (k : Fin 4096) :
    in1_q W c (pt1 g r) (ix3 (0 : Fin 1) p k) = W c (Proc.devRef .tc main_v5_1) (ix3 g (bandRow r p) k) := by
  obtain ⟨h0, h1, h2⟩ := at1_0 (pt1 g r)
  refine congrArg (W c (Proc.devRef .tc main_v5_1)) (funext fun a => Fin.ext ?_)
  match a with
  | ⟨0, _⟩ =>
    refine ((cfg1.win 0).rect_emb_val (pt1 g r) (ix3 (0 : Fin 1) p k) (0 : Fin 3)).trans ?_
    rw [h0]; show (4 * g.val + r.val) / 4 * 1 + 0 = g.val; omega
  | ⟨1, _⟩ =>
    refine ((cfg1.win 0).rect_emb_val (pt1 g r) (ix3 (0 : Fin 1) p k) (1 : Fin 3)).trans ?_
    rw [h1]; show (4 * g.val + r.val) % 4 * 1024 + p.val = 1024 * r.val + p.val; omega
  | ⟨2, _⟩ =>
    refine ((cfg1.win 0).rect_emb_val (pt1 g r) (ix3 (0 : Fin 1) p k) (2 : Fin 3)).trans ?_
    rw [h2]; show 0 * 4096 + k.val = k.val; omega

theorem in1_h_apply (g : Fin 3) (r : Fin 4) (k : Fin 4096) (j : Fin 64) :
    in1_h W c (pt1 g r) (ix3 (0 : Fin 1) k j) = W c (Proc.devRef .tc main_v5_0) (ix3 g k j) := by
  obtain ⟨h0, h1, h2⟩ := at1_1 (pt1 g r)
  refine congrArg (W c (Proc.devRef .tc main_v5_0)) (funext fun a => Fin.ext ?_)
  match a with
  | ⟨0, _⟩ =>
    refine ((cfg1.win 1).rect_emb_val (pt1 g r) (ix3 (0 : Fin 1) k j) (0 : Fin 3)).trans ?_
    rw [h0]; show (4 * g.val + r.val) / 4 * 1 + 0 = g.val; omega
  | ⟨1, _⟩ =>
    refine ((cfg1.win 1).rect_emb_val (pt1 g r) (ix3 (0 : Fin 1) k j) (1 : Fin 3)).trans ?_
    rw [h1]; show 0 * 4096 + k.val = k.val; omega
  | ⟨2, _⟩ =>
    refine ((cfg1.win 1).rect_emb_val (pt1 g r) (ix3 (0 : Fin 1) k j) (2 : Fin 3)).trans ?_
    rw [h2]; show 0 * 64 + j.val = j.val; omega

end reads

/-! ## The first region's arrays -/

variable (m : (ℓ : Loc nD τ sig) → Buf (Elt F) ℓ) (c : Dev nD)

theorem emb0_4 (g : Fin 3) (r : Fin 4) (p : Fin 1024) (j : Fin 64) :
    ((cfg0.win 4).blk (pt0 g r)).view.emb (ix3 (0 : Fin 1) p j) = ix3 g (bandRow r p) j := by
  obtain ⟨h0, h1, h2⟩ := at0_4 (pt0 g r)
  refine funext fun a => Fin.ext ?_
  match a with
  | ⟨0, _⟩ =>
    refine ((cfg0.win 4).rect_emb_val (pt0 g r) (ix3 (0 : Fin 1) p j) (0 : Fin 3)).trans ?_
    rw [h0]; show (4 * g.val + r.val) / 4 * 1 + 0 = g.val; omega
  | ⟨1, _⟩ =>
    refine ((cfg0.win 4).rect_emb_val (pt0 g r) (ix3 (0 : Fin 1) p j) (1 : Fin 3)).trans ?_
    rw [h1]; show (4 * g.val + r.val) % 4 * 1024 + p.val = 1024 * r.val + p.val; omega
  | ⟨2, _⟩ =>
    refine ((cfg0.win 4).rect_emb_val (pt0 g r) (ix3 (0 : Fin 1) p j) (2 : Fin 3)).trans ?_
    rw [h2]; show 0 * 64 + j.val = j.val; omega

theorem emb0_5 (g : Fin 3) (r : Fin 4) (p : Fin 1024) (k : Fin 4096) :
    ((cfg0.win 5).blk (pt0 g r)).view.emb (ix3 (0 : Fin 1) p k) = ix3 g (bandRow r p) k := by
  obtain ⟨h0, h1, h2⟩ := at0_5 (pt0 g r)
  refine funext fun a => Fin.ext ?_
  match a with
  | ⟨0, _⟩ =>
    refine ((cfg0.win 5).rect_emb_val (pt0 g r) (ix3 (0 : Fin 1) p k) (0 : Fin 3)).trans ?_
    rw [h0]; show (4 * g.val + r.val) / 4 * 1 + 0 = g.val; omega
  | ⟨1, _⟩ =>
    refine ((cfg0.win 5).rect_emb_val (pt0 g r) (ix3 (0 : Fin 1) p k) (1 : Fin 3)).trans ?_
    rw [h1]; show (4 * g.val + r.val) % 4 * 1024 + p.val = 1024 * r.val + p.val; omega
  | ⟨2, _⟩ =>
    refine ((cfg0.win 5).rect_emb_val (pt0 g r) (ix3 (0 : Fin 1) p k) (2 : Fin 3)).trans ?_
    rw [h2]; show 0 * 4096 + k.val = k.val; omega

/-- An element of a block lies within the block's bounds on each axis. -/
theorem mem_bounds {cfg : Pipeline.Cfg sig Λ₀} (w : Fin cfg.W) (t : Fin cfg.N) (i : (cfg.win w).shape.Idx) (hk : (cfg.win w).kind = .blocked)
    (h : i ∈ ((cfg.win w).rect t).set) (a : Fin (cfg.win w).shape.rank) :
    (cfg.win w).index t a * (cfg.win w).size a ≤ i a ∧ (i a : ℕ) < (cfg.win w).index t a * (cfg.win w).size a + (cfg.win w).xsize (cfg.grid.coords t) a :=
  ((cfg.win w).mem_rect_iff t i hk).mp h a

theorem mem0_4 (t : Fin cfg0.N) (g : Fin 3) (r : Fin 4) (p : Fin 1024) (j : Fin 64)
    (h : (ix3 g (bandRow r p) j : (⟨3, ![3, 4096, 64]⟩ : Shape).Idx) ∈ ((cfg0.win 4).blk t).view.set) : t.val = 4 * g.val + r.val := by
  obtain ⟨h0, h1, -⟩ := at0_4 t
  have h' : (ix3 g (bandRow r p) j : (⟨3, ![3, 4096, 64]⟩ : Shape).Idx) ∈ ((cfg0.win 4).rect t).set := (ValueKit.mem_set_slice_whole_iff _ _ _ Iff.rfl).mp h
  have b0 := mem_bounds (cfg := cfg0) 4 t _ rfl h' (0 : Fin 3)
  have b1 := mem_bounds (cfg := cfg0) 4 t _ rfl h' (1 : Fin 3)
  rw [h0] at b0; rw [h1] at b1
  have b0' : t.val / 4 * 1 ≤ g.val ∧ g.val < t.val / 4 * 1 + 1 := b0
  have b1' : t.val % 4 * 1024 ≤ 1024 * r.val + p.val ∧ 1024 * r.val + p.val < t.val % 4 * 1024 + 1024 := b1
  omega

theorem mem0_5 (t : Fin cfg0.N) (g : Fin 3) (r : Fin 4) (p : Fin 1024) (k : Fin 4096)
    (h : (ix3 g (bandRow r p) k : (⟨3, ![3, 4096, 4096]⟩ : Shape).Idx) ∈ ((cfg0.win 5).blk t).view.set) : t.val = 4 * g.val + r.val := by
  obtain ⟨h0, h1, -⟩ := at0_5 t
  have h' : (ix3 g (bandRow r p) k : (⟨3, ![3, 4096, 4096]⟩ : Shape).Idx) ∈ ((cfg0.win 5).rect t).set := (ValueKit.mem_set_slice_whole_iff _ _ _ Iff.rfl).mp h
  have b0 := mem_bounds (cfg := cfg0) 5 t _ rfl h' (0 : Fin 3)
  have b1 := mem_bounds (cfg := cfg0) 5 t _ rfl h' (1 : Fin 3)
  rw [h0] at b0; rw [h1] at b1
  have b0' : t.val / 4 * 1 ≤ g.val ∧ g.val < t.val / 4 * 1 + 1 := b0
  have b1' : t.val % 4 * 1024 ≤ 1024 * r.val + p.val ∧ 1024 * r.val + p.val < t.val % 4 * 1024 + 1024 := b1
  omega

theorem mem1_7 (t : Fin cfg1.N) (r : Fin 4) (p : Fin 1024) (j : Fin 8)
    (h : (ix2 (bandRow r p) j : (⟨2, ![4096, 8]⟩ : Shape).Idx) ∈ ((cfg1.win 7).blk t).view.set) : t.val % 4 = r.val := by
  obtain ⟨h0, -⟩ := at1_7 t
  have h' : (ix2 (bandRow r p) j : (⟨2, ![4096, 8]⟩ : Shape).Idx) ∈ ((cfg1.win 7).rect t).set := (ValueKit.mem_set_slice_whole_iff _ _ _ Iff.rfl).mp h
  have b0 := mem_bounds (cfg := cfg1) 7 t _ rfl h' (0 : Fin 2)
  rw [h0] at b0
  have b0' : t.val % 4 * 1024 ≤ 1024 * r.val + p.val ∧ 1024 * r.val + p.val < t.val % 4 * 1024 + 1024 := b0
  omega

/-- The first region's activations: each band is what its point left. -/
theorem W2_h1 (g : Fin 3) (r : Fin 4) (p : Fin 1024) (j : Fin 64) :
    W2 m c (Proc.devRef .tc main_v5_0) (ix3 g (bandRow r p) j) = h1At (V1 m) c (pt0 g r) (ix3 (0 : Fin 1) p j) := by
  have e := congrFun (Pipeline.afterRegion_arr (dats0 (V1 m) c) (V1 m c) inj0 4) (ix3 g (bandRow r p) j)
  refine e.trans ?_
  have hl := arrAt_last (dats0 (V1 m) c) 4 (pt0 g r) (flush0_4 _) (ix3 (0 : Fin 1) p j) (fun t' ht' hin => by
    rw [emb0_4] at hin
    have := mem0_4 t' g r p j hin
    have : 4 * g.val + r.val < t'.val := ht'
    omega) cfg0.N (pt0 g r).isLt
  rw [emb0_4] at hl
  exact hl

/-- The first region's codes: each band is what its point left. -/
theorem W2_q (g : Fin 3) (r : Fin 4) (p : Fin 1024) (k : Fin 4096) :
    W2 m c (Proc.devRef .tc main_v5_1) (ix3 g (bandRow r p) k) = qAt (V1 m) c (pt0 g r) (ix3 (0 : Fin 1) p k) := by
  have e := congrFun (Pipeline.afterRegion_arr (dats0 (V1 m) c) (V1 m c) inj0 5) (ix3 g (bandRow r p) k)
  refine e.trans ?_
  have hl := arrAt_last (dats0 (V1 m) c) 5 (pt0 g r) (flush0_5 _) (ix3 (0 : Fin 1) p k) (fun t' ht' hin => by
    rw [emb0_5] at hin
    have := mem0_5 t' g r p k hin
    have : 4 * g.val + r.val < t'.val := ht'
    omega) cfg0.N (pt0 g r).isLt
  rw [emb0_5] at hl
  exact hl

/-- The other arrays the second region reads are as the host operations left them. -/
theorem W2_v4 : W2 m c (Proc.devRef .tc main_v4) = V1 m c (Proc.devRef .tc main_v4) :=
  Pipeline.afterRegion_keeps (dats0 (V1 m) c) (V1 m c) inj0 (fun w => dats0_A (V1 m) c w) main_v4 (by decide)
theorem W2_v1 : W2 m c (Proc.devRef .tc main_v1) = V1 m c (Proc.devRef .tc main_v1) :=
  Pipeline.afterRegion_keeps (dats0 (V1 m) c) (V1 m c) inj0 (fun w => dats0_A (V1 m) c w) main_v1 (by decide)
theorem W2_v2 : W2 m c (Proc.devRef .tc main_v2) = V1 m c (Proc.devRef .tc main_v2) :=
  Pipeline.afterRegion_keeps (dats0 (V1 m) c) (V1 m c) inj0 (fun w => dats0_A (V1 m) c w) main_v2 (by decide)
theorem W2_v3 : W2 m c (Proc.devRef .tc main_v3) = V1 m c (Proc.devRef .tc main_v3) :=
  Pipeline.afterRegion_keeps (dats0 (V1 m) c) (V1 m c) inj0 (fun w => dats0_A (V1 m) c w) main_v3 (by decide)
theorem W2_arg7 : W2 m c (Proc.devRef .tc main_arg7) = V1 m c (Proc.devRef .tc main_arg7) :=
  Pipeline.afterRegion_keeps (dats0 (V1 m) c) (V1 m c) inj0 (fun w => dats0_A (V1 m) c w) main_arg7 (by decide)

/-! ## What the host operations leave -/

theorem V1_arg (r : Ref sig .tc) (h : r ∉ hostOps0_W) : V1 m c (Proc.devRef .tc r) = m ((c.tc : Thread nD τ).loc r) := (V1_of m c r h).trans rfl

theorem V1_v0 : V1 m c (Proc.devRef .tc main_v0) = shapeCast S3x1x64 (m ((c.tc : Thread nD τ).loc main_arg3)) shapeCasts_S3x64_S3x1x64 := by
  unfold V1
  simp only [StableHlo.after_cons, StableHlo.after_nil]
  after_results_simp
  rfl
theorem V1_v1 : V1 m c (Proc.devRef .tc main_v1) = shapeCast S3x1x32 (m ((c.tc : Thread nD τ).loc main_arg5)) shapeCasts_S3x32_S3x1x32 := by
  unfold V1
  simp only [StableHlo.after_cons, StableHlo.after_nil]
  after_results_simp
  rfl
theorem V1_v2 : V1 m c (Proc.devRef .tc main_v2) = shapeCast S32x1 (m ((c.tc : Thread nD τ).loc main_arg6)) shapeCasts_S32_S32x1 := by
  unfold V1
  simp only [StableHlo.after_cons, StableHlo.after_nil]
  after_results_simp
  rfl
theorem V1_v3 : V1 m c (Proc.devRef .tc main_v3) = shapeCast S1x8 (m ((c.tc : Thread nD τ).loc main_arg8)) shapeCasts_S8_S1x8 := by
  unfold V1
  simp only [StableHlo.after_cons, StableHlo.after_nil]
  after_results_simp
  rfl
theorem V1_v4 : V1 m c (Proc.devRef .tc main_v4) = truncf .bf16 (m ((c.tc : Thread nD τ).loc main_arg4) : FVec F S3x64x32 .f32) bitsLt_bf16_f32 := by
  unfold V1
  simp only [StableHlo.after_cons, StableHlo.after_nil]
  after_results_simp

/-! ## The result -/

theorem emb1_7 (r : Fin 4) (p : Fin 1024) (j : Fin 8) :
    ((cfg1.win 7).blk (pt1 2 r)).view.emb (ix2 p j) = ix2 (bandRow r p) j := by
  obtain ⟨h0, h1⟩ := at1_7 (pt1 2 r)
  refine funext fun a => Fin.ext ?_
  match a with
  | ⟨0, _⟩ =>
    refine ((cfg1.win 7).rect_emb_val (pt1 2 r) (ix2 p j) (0 : Fin 2)).trans ?_
    rw [h0]; show (4 * 2 + r.val) % 4 * 1024 + p.val = 1024 * r.val + p.val; omega
  | ⟨1, _⟩ =>
    refine ((cfg1.win 7).rect_emb_val (pt1 2 r) (ix2 p j) (1 : Fin 2)).trans ?_
    rw [h1]; show 0 * 8 + j.val = j.val; omega

/-- What the second region may leave in the result is, band by band, what the last graph's points computed. -/
theorem leaves1_out (V' : Valuation τ sig (Elt F)) (h : Leaves (pdats m) marks (lefts m) 1 c (W2 m c) V') (r : Fin 4) (p : Fin 1024) (j : Fin 8) :
    V' (Proc.devRef .tc main_v6) (ix2 (bandRow r p) j) = outAt (W2 m) c (pt1 2 r) (ix2 p j) := by
  obtain ⟨X, hX, hA⟩ := RDat.ArrAt.exists_exact (h.1 7)
  have e := congrFun (hA (fun w u => if hw : w = 7 then hw ▸ X u else (pdats m 1 c).after w u) (fun u _ _ => by rw [dif_pos rfl])) (ix2 (bandRow r p) j)
  refine e.trans ?_
  have hl := arrAt_last (cfg := cfg1) ((rels (pdats m) marks (lefts m) 1 c).withAfter (fun w u => if hw : w = 7 then hw ▸ X u else (pdats m 1 c).after w u)) 7
    (pt1 2 r) (flush1_7 _) (ix2 p j) (fun t' ht' hin => by
      rw [emb1_7] at hin
      have := mem1_7 t' r p j hin
      have h12 : t'.val < 12 := lt_of_lt_of_eq t'.isLt N_1
      have : 4 * 2 + r.val < t'.val := ht'
      omega) cfg1.N (pt1 2 r).isLt
  rw [emb1_7] at hl
  refine hl.trans ?_
  have hx : leaves1 (W2 m) c 7 (pt1 2 r) (X (pt1 2 r)) :=
    Dat.toRRel_leaves (dat := dats1 (W2 m) c) (fgt := marks1) (Rl := leaves1 (W2 m) c) (w := 7) rfl (hX (pt1 2 r) (pt1 2 r).isLt (flush1_7 _))
  exact congrFun (hx (by show 8 ≤ 4 * 2 + r.val; omega)) (ix2 p j)

end Cert.Hand
-- ==== Proof.Spec.lean ====
/-
  The mathematics of the program over the extended reals, on plain functions of coordinates: the two graph convolutions, the
  quantisers of the adjacency and of the second product's operand, the attention over the three graphs and the log-softmax. The
  second product is stated twice, as the kernel sums it (whole-number dots, then the scales) and as the reference does (dequantised
  operands under one sum), and the two are shown equal at every input, the infinities included.
-/
module

public import Idealize.ShloMosaic.PureOps.Ideal
public import Idealize.ShloMosaic.PureOps.Ideal.Laws
public import Idealize.ShloMosaic.Lib.IdealHost

@[expose] public section

noncomputable section

namespace Cert.Hand

open Idealize.ShloMosaic
open scoped BigOperators

/-! ## The literals -/

/-- What a 32-bit pattern denotes. -/
abbrev lit (b : BitVec 32) : EReal := Ideal.ofBits .f32 b

theorem lit_zero : lit 0x00000000#32 = 0 := Ideal.ofBits_zero_f32

theorem lit_bot : lit 0xFF800000#32 = ⊥ := by
  simp [lit, Ideal.ofBits, Ideal.ieee]

theorem lit_254 : lit 0x437E0000#32 = ((254 : ℝ) : EReal) := by
  simp [lit, Ideal.ofBits, Ideal.ieee, -EReal.coe_mul]; norm_num

theorem lit_127 : lit 0x42FE0000#32 = ((127 : ℝ) : EReal) := by
  simp [lit, Ideal.ofBits, Ideal.ieee, -EReal.coe_mul]; norm_num

theorem lit_neg128 : lit 0xC3000000#32 = ((-128 : ℝ) : EReal) := by
  simp [lit, Ideal.ofBits, Ideal.ieee, -EReal.coe_mul, -EReal.coe_neg]; norm_num

/-- The smallest scale's numerator is positive. -/
theorem lit_eps_pos : 0 < lit 0x0DA24260#32 := by
  have h : lit 0x0DA24260#32 = (((2 ^ 23 + (2245216 : ℕ) : ℝ) * (2 : ℝ) ^ (-123 : ℤ) : ℝ) : EReal) := by
    simp [lit, Ideal.ofBits, Ideal.ieee, -EReal.coe_mul]
    norm_num
  rw [h]
  exact EReal.coe_pos.mpr (by positivity)

/-! ## Rounding and the bytes it is stored in -/

/-- To the nearest whole number, ties to the even one. -/
def rne (x : EReal) : EReal := Ideal.liftRound Ideal.roundHalfEven x

/-- Cut to the range of a signed byte. -/
def clip8 (x : EReal) : EReal := min (lit 0x42FE0000#32) (max (lit 0xC3000000#32) x)

/-- The signed byte an extended real is stored in. -/
def byte (x : EReal) : BitVec 8 := Ideal.fptosi 8 x

theorem rne_zero : rne 0 = 0 := by
  rw [show (0 : EReal) = ((0 : ℝ) : EReal) by norm_cast]
  show ((Ideal.roundHalfEven 0 : ℝ) : EReal) = _
  norm_num [Ideal.roundHalfEven]

theorem toInt_ofInt8 {z : Int} (h1 : -128 ≤ z) (h2 : z ≤ 127) : (BitVec.ofInt 8 z).toInt = z := by
  rw [BitVec.toInt_ofInt]
  exact Int.bmod_eq_of_le (by omega) (by omega)

/-- A rounded value's byte is the value cut to the byte's range. -/
theorem byte_rne (x : EReal) : (((byte (rne x)).toInt : ℝ) : EReal) = clip8 (rne x) := by
  unfold clip8
  rw [lit_127, lit_neg128]
  induction x using EReal.rec with
  | bot =>
    have h : (byte (rne ⊥)).toInt = -128 := toInt_ofInt8 (z := -128) (by norm_num) (by norm_num)
    rw [h, show rne ⊥ = ⊥ from rfl, max_eq_left bot_le, min_eq_right (by exact_mod_cast (by norm_num : (-128 : ℝ) ≤ 127))]
    norm_num
  | top =>
    have h : (byte (rne ⊤)).toInt = 127 := toInt_ofInt8 (z := 127) (by norm_num) (by norm_num)
    rw [h, show rne ⊤ = ⊤ from rfl, max_eq_right le_top, min_eq_left le_top]
    norm_num
  | coe r =>
    obtain ⟨z, hz⟩ : ∃ z : ℤ, rne (r : EReal) = ((z : ℝ) : EReal) := ⟨Ideal.roundHalfEven r, rfl⟩
    rw [hz]
    have h : (byte ((z : ℝ) : EReal)).toInt = max (-128) (min 127 z) := by
      have hc : Ideal.toIntClamped (-(2 ^ (8 - 1) : Nat)) ((2 ^ (8 - 1) : Nat) - 1) ((z : ℝ) : EReal) = max (-128) (min 127 z) := by
        show max _ (min _ (if (0 : ℝ) ≤ (z : ℝ) then ⌊(z : ℝ)⌋ else ⌈(z : ℝ)⌉)) = _
        rw [Int.floor_intCast, Int.ceil_intCast, ite_self]
        norm_num
      show (BitVec.ofInt 8 _).toInt = _
      rw [hc]
      exact toInt_ofInt8 (le_max_left _ _) (max_le (by norm_num) (min_le_left _ _))
    rw [h]
    have e : ((max (-128) (min 127 z) : ℤ) : ℝ) = min 127 (max (-128) (z : ℝ)) := by
      push_cast
      rw [max_min_distrib_left, max_eq_right (by norm_num : (-128 : ℝ) ≤ 127)]
    rw [e, EReal.coe_strictMono.monotone.map_min, EReal.coe_strictMono.monotone.map_max]

/-! ## One column's quantiser -/

section Column

variable {n : Nat} (y : Fin n → EReal)

/-- The column's largest magnitude. -/
def colMax : EReal := Finset.univ.fold max (lit 0xFF800000#32) (fun k => max (y k) (-(y k)))

/-- The column's step: its largest magnitude over 127, never zero. -/
def scale : EReal := Ideal.div (max (colMax y) (lit 0x0DA24260#32)) (lit 0x42FE0000#32)

/-- The column in steps, rounded. -/
def steps (k : Fin n) : EReal := rne (Ideal.div (y k) (scale y))

/-- What the steps leave of the column. -/
def resid (k : Fin n) : EReal := y k - scale y * steps y k

theorem scale_pos : 0 < scale y := by
  unfold scale
  rw [lit_127, Ideal.div_coe (by norm_num)]
  exact EReal.mul_pos (lt_of_lt_of_le lit_eps_pos (le_max_right _ _)) (by exact_mod_cast (by norm_num : (0 : ℝ) < 1 / 127))

theorem scale_ne_bot : scale y ≠ ⊥ := (lt_of_le_of_lt bot_le (scale_pos y)).ne'

/-- Under an infinite step every entry is zero steps. -/
theorem steps_of_top (h : scale y = ⊤) (k : Fin n) : steps y k = 0 := by
  unfold steps
  rw [h, Ideal.div, if_neg (by simp), EReal.inv_top, mul_zero, rne_zero]

/-- The steps' byte as an integer. -/
def stepInt (k : Fin n) : ℤ := (byte (steps y k)).toInt

theorem coe_stepInt (k : Fin n) : (((stepInt y k : ℤ) : ℝ) : EReal) = clip8 (steps y k) := byte_rne _

theorem stepInt_of_top (h : scale y = ⊤) (k : Fin n) : stepInt y k = 0 := by
  unfold stepInt
  rw [steps_of_top y h]
  have hc : Ideal.toIntClamped (-(2 ^ (8 - 1) : Nat)) ((2 ^ (8 - 1) : Nat) - 1) (((0 : ℝ)) : EReal) = 0 := by
    show max _ (min _ (if (0 : ℝ) ≤ 0 then ⌊(0 : ℝ)⌋ else ⌈(0 : ℝ)⌉)) = _
    norm_num
  show (BitVec.ofInt 8 (Ideal.toIntClamped (-(2 ^ (8 - 1) : Nat)) ((2 ^ (8 - 1) : Nat) - 1) (((0 : ℝ)) : EReal))).toInt = 0
  rw [hc]
  rfl

end Column

/-! ## A step times whole numbers is real -/

theorem coe_sum {n : Nat} (f : Fin n → ℝ) : ((∑ k, f k : ℝ) : EReal) = ∑ k, (f k : EReal) := by
  classical
  refine Finset.induction_on (Finset.univ : Finset (Fin n)) (by simp) ?_
  intro a s ha ih
  rw [Finset.sum_insert ha, Finset.sum_insert ha, EReal.coe_add, ih]

/-- A step times a whole number of steps is real: an infinite step meets only zero. -/
theorem mul_step {t : EReal} (hb : t ≠ ⊥) {q : ℤ} (hq : t = ⊤ → q = 0) : t * ((q : ℝ) : EReal) = ((t.toReal * q : ℝ) : EReal) := by
  by_cases ht : t = ⊤
  · rw [hq ht]; simp
  · conv_lhs => rw [← EReal.coe_toReal ht hb]
    rw [EReal.coe_mul]

/-- A whole-number dot times its step over 254. -/
theorem dot_step {t : EReal} (hb : t ≠ ⊥) {I : ℤ} (hI : t = ⊤ → I = 0) :
    ((I : ℝ) : EReal) * Ideal.div t (lit 0x437E0000#32) = ((I * (t.toReal * (1 / 254)) : ℝ) : EReal) := by
  rw [lit_254, Ideal.div_coe (by norm_num)]
  by_cases ht : t = ⊤
  · rw [hI ht]; simp
  · conv_lhs => rw [← EReal.coe_toReal ht hb]
    rw [← EReal.coe_mul, ← EReal.coe_mul]

/-- The two whole-number dots under their steps, against one sum over the dequantised operands. -/
theorem dots_eq {n : Nat} {t t' : EReal} (hb : t ≠ ⊥) (hb' : t' ≠ ⊥) (c q q' : Fin n → ℤ) (hq : t = ⊤ → ∀ k, q k = 0) (hq' : t' = ⊤ → ∀ k, q' k = 0) :
    (((∑ k, c k * q k : ℤ) : ℝ) : EReal) * Ideal.div t (lit 0x437E0000#32)
        + (((∑ k, c k * q' k : ℤ) : ℝ) : EReal) * Ideal.div t' (lit 0x437E0000#32)
      = ∑ k, Ideal.div ((c k : ℝ) : EReal) (lit 0x437E0000#32) * (t * ((q k : ℝ) : EReal) + t' * ((q' k : ℝ) : EReal)) := by
  rw [dot_step hb (fun h => Finset.sum_eq_zero fun k _ => by rw [hq h k, mul_zero]),
    dot_step hb' (fun h => Finset.sum_eq_zero fun k _ => by rw [hq' h k, mul_zero]), ← EReal.coe_add]
  have hk : ∀ k, Ideal.div ((c k : ℝ) : EReal) (lit 0x437E0000#32) * (t * ((q k : ℝ) : EReal) + t' * ((q' k : ℝ) : EReal))
      = (((c k : ℝ) * (1 / 254) * (t.toReal * q k + t'.toReal * q' k) : ℝ) : EReal) := by
    intro k
    rw [mul_step hb (fun h => hq h k), mul_step hb' (fun h => hq' h k), lit_254, Ideal.div_coe (by norm_num), ← EReal.coe_add, ← EReal.coe_mul,
      ← EReal.coe_mul]
  rw [Finset.sum_congr rfl (fun k _ => hk k), ← coe_sum]
  congr 1
  push_cast
  rw [Finset.sum_mul, Finset.sum_mul, ← Finset.sum_add_distrib]
  exact Finset.sum_congr rfl fun k _ => by ring

/-! ## The second convolution, both ways -/

/-- An adjacency entry's code, before it is cut to a byte. -/
def code (a : EReal) : EReal := rne ((a - lit 0x3F000000#32) * lit 0x437E0000#32)

/-- The whole-number dot of a row of codes with a column of steps. -/
def dotInt {n : Nat} (A y : Fin n → EReal) : ℤ := ∑ k, (byte (code (A k))).toInt * (byte (steps y k)).toInt

/-- The embedding's entry as the kernel computes it: two whole-number dots, then the steps. -/
def embK {n : Nat} (A y : Fin n → EReal) (b : EReal) : EReal :=
  max ((((((dotInt A y : ℤ) : ℝ) : EReal) * Ideal.div (scale y) (lit 0x437E0000#32)
      + ((dotInt A (resid y) : ℝ) : EReal) * Ideal.div (scale (resid y)) (lit 0x437E0000#32))
    + lit 0x3F000000#32 * ∑ k, y k) + b) (lit 0x00000000#32)

/-- The embedding's entry as the reference computes it: the dequantised operands under one sum. -/
def embR {n : Nat} (A y : Fin n → EReal) (b : EReal) : EReal :=
  max (((∑ k, Ideal.div (clip8 (code (A k))) (lit 0x437E0000#32)
      * (scale y * clip8 (steps y k) + scale (resid y) * clip8 (steps (resid y) k)))
    + lit 0x3F000000#32 * ∑ k, y k) + b) (lit 0x00000000#32)

theorem embK_eq_embR {n : Nat} (A y : Fin n → EReal) (b : EReal) : embK A y b = embR A y b := by
  unfold embK embR
  have h := dots_eq (scale_ne_bot y) (scale_ne_bot (resid y)) (fun k => (byte (code (A k))).toInt) (stepInt y) (stepInt (resid y))
    (stepInt_of_top y) (stepInt_of_top (resid y))
  have hs : ∀ k, Ideal.div (clip8 (code (A k))) (lit 0x437E0000#32) * (scale y * clip8 (steps y k) + scale (resid y) * clip8 (steps (resid y) k))
      = Ideal.div (((byte (code (A k))).toInt : ℝ) : EReal) (lit 0x437E0000#32)
        * (scale y * ((stepInt y k : ℝ) : EReal) + scale (resid y) * ((stepInt (resid y) k : ℝ) : EReal)) := by
    intro k
    rw [coe_stepInt, coe_stepInt, show code (A k) = rne _ from rfl, byte_rne]
  rw [Finset.sum_congr rfl (fun k _ => hs k), ← h]
  rfl

/-! ## The whole program on coordinates -/

section Program

variable (x : Fin 4096 → Fin 128 → EReal) (adj : Fin 3 → Fin 4096 → Fin 4096 → EReal) (w1 : Fin 3 → Fin 128 → Fin 64 → EReal)
  (b1 : Fin 3 → Fin 64 → EReal) (w2 : Fin 3 → Fin 64 → Fin 32 → EReal) (b2 : Fin 3 → Fin 32 → EReal)

/-- `X W1[m]`. -/
def sY1 (m : Fin 3) (k : Fin 4096) (f : Fin 64) : EReal := ∑ i, x k i * w1 m i f

/-- `relu(A[m] X W1[m] + b1[m])`. -/
def sH1 (m : Fin 3) (r : Fin 4096) (f : Fin 64) : EReal := max ((∑ k, adj m r k * sY1 x w1 m k f) + b1 m f) (lit 0x00000000#32)

/-- Column `j` of the second product's right operand. -/
def sY2 (m : Fin 3) (j : Fin 32) (k : Fin 4096) : EReal := ∑ f, sH1 x adj w1 b1 m k f * w2 m f j

/-- The embedding of node `r` in graph `m`. -/
def sEmb (m : Fin 3) (r : Fin 4096) (j : Fin 32) : EReal := embR (adj m r) (sY2 x adj w1 b1 w2 m j) (b2 m j)

end Program

/-! ## Attention and log-softmax -/

/-- The leaky rectifier. -/
def leaky (s : EReal) : EReal := if 0 ≤ s then s else lit 0x3E4CCCCD#32 * s

/-- Taking the other branch at zero changes nothing. -/
theorem leaky_pos (s : EReal) : (if 0 < s then s else lit 0x3E4CCCCD#32 * s) = leaky s := by
  unfold leaky
  rcases lt_trichotomy 0 s with h | h | h
  · rw [if_pos h, if_pos h.le]
  · subst h; simp
  · rw [if_neg (not_lt.mpr h.le), if_neg (not_le.mpr h)]

section Head

variable (e : Fin 3 → Fin 32 → EReal) (a : Fin 32 → EReal)

/-- A graph's score at the node. -/
def score (m : Fin 3) : EReal := leaky (∑ f, e m f * a f)

/-- The weight of a graph at the node. -/
def weight (m : Fin 3) : EReal := Ideal.exp (score e a m - Finset.univ.fold max (lit 0xFF800000#32) (score e a))

/-- The node's weighted mean of its three embeddings. -/
def mean (f : Fin 32) : EReal := Ideal.div (∑ m, weight e a m * e m f) (∑ m, weight e a m)

end Head

section Classifier

variable (o : Fin 32 → EReal) (w : Fin 32 → Fin 8 → EReal) (b : Fin 8 → EReal)

/-- The classifier's rectified output. -/
def logit (j : Fin 8) : EReal := max ((∑ f, o f * w f j) + b j) (lit 0x00000000#32)

/-- Its distance below the row's largest. -/
def below (j : Fin 8) : EReal := logit o w b j - Finset.univ.fold max (lit 0xFF800000#32) (logit o w b)

/-- The log-softmax. -/
def logProb (j : Fin 8) : EReal := below o w b j - Ideal.log (∑ i, Ideal.exp (below o w b i))

end Classifier

/-- A maximum over three, folded from minus infinity. -/
theorem fold_max3 (f : Fin 3 → EReal) : Finset.univ.fold max (lit 0xFF800000#32) f = max (f 0) (max (f 1) (f 2)) := by
  rw [lit_bot, show (Finset.univ : Finset (Fin 3)) = {0, 1, 2} from rfl, Finset.fold_insert (by decide), Finset.fold_insert (by decide),
    Finset.fold_singleton, max_eq_left bot_le]

end Cert.Hand
-- ==== Proof.KernelReads.lean ====
/-
  The kernel's stored values read element by element over the extended reals: each payload at an index, as the mathematics of the
  coordinates.
-/
module

public import proofs.«01_k».proof.Proof.Values
public import proofs.«01_k».proof.Proof.Spec
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pointwise.Sums
public import Idealize.ShloMosaic.Lib.Pointwise.Select
public import Idealize.ShloMosaic.Lib.Pointwise.IndexBridge
public import Idealize.ShloMosaic.Lib.MatmulPlain
public import Idealize.ShloMosaic.Lib.IntMxu

@[expose] public section

noncomputable section

namespace Cert.Hand

open Cert.KernelIdeal Cert.KernelIdeal.Gen
open Idealize.ShloMosaic Idealize.ShloMosaic.TcCoe
open scoped BigOperators

/-- One matrix of a stack, at an index. -/
theorem slab_apply {α : Type} {a b : Nat} (X : (⟨3, ![3, a, b]⟩ : Shape).Idx → α) (m : Fin 3) (i : Fin a) (j : Fin b) :
    slab X m (ix3 (0 : Fin 1) i j) = X (ix3 m i j) := by
  unfold slab
  rw [ix3_eq_valueIdx m i j]
  rfl

theorem absf_eq (x : EReal) : FloatOps.absf (F := Ideal) (φ := .f32) x = max x (-x) := rfl

/-! ## The first pipeline -/

theorem val_y1_apply (x : Vec Ideal S4096x128 .f32) (w1 : Vec Ideal S3x128x64 .f32) (m : Fin 3) (k : Fin 4096) (f : Fin 64) :
    val_y1 (F := Ideal) x w1 m (ix2 k f) = ∑ i : Fin 128, x (ix2 k i) * w1 (ix3 m i f) := by
  unfold val_y1 k0_pay2
  pointwise
  simp only [slab_apply]

theorem val_h1_apply (a : Vec Ideal S1x1024x4096 .f32) (y : Vec Ideal S4096x64 .bf16) (b1 : Vec Ideal S3x1x64 .f32) (m : Fin 3) (p : Fin 1024) (f : Fin 64) :
    val_h1 (F := Ideal) a y b1 m (ix3 (0 : Fin 1) p f)
      = max ((∑ k : Fin 4096, a (ix3 (0 : Fin 1) p k) * y (ix2 k f)) + b1 (ix3 m (0 : Fin 1) f)) (lit 0x00000000#32) := by
  unfold val_h1 k0_pay3 k0_pay1
  pointwise
  simp only [slab_apply]

theorem k0_pay4_apply (a : Vec Ideal S1x1024x4096 .f32) (p : Fin 1024) (k : Fin 4096) :
    k0_pay4 (F := Ideal) a (ix3 (0 : Fin 1) p k) = byte (code (a (ix3 (0 : Fin 1) p k))) := by
  unfold k0_pay4 k0_pay1
  pointwise
  rfl

/-! ## The second pipeline: one graph's quantised operand -/

section Quantise

variable (h : Vec Ideal S1x4096x64 .bf16) (w : Vec Ideal S1x64x32 .bf16) (k : Fin 4096) (j : Fin 32)

/-- A column of the second product's right operand. -/
def col : Fin 4096 → EReal := fun k => k1_pay3 (F := Ideal) h w (ix2 k j)

theorem k1_pay3_apply : k1_pay3 (F := Ideal) h w (ix2 k j) = ∑ f : Fin 64, h (ix3 (0 : Fin 1) k f) * w (ix3 (0 : Fin 1) f j) := by
  unfold k1_pay3
  pointwise

theorem k1_pay4_apply : k1_pay4 (F := Ideal) h w (ix2 (0 : Fin 1) j) = scale (col h w j) := by
  unfold k1_pay4 col
  generalize k1_pay3 (F := Ideal) h w = Y
  pointwise
  rfl

theorem k1_pay5_apply : k1_pay5 (F := Ideal) h w (ix2 k j) = steps (col h w j) k := by
  unfold k1_pay5
  pointwise
  rw [k1_pay4_apply]
  rfl

theorem k1_pay6_apply : k1_pay6 (F := Ideal) h w (ix2 k j) = byte (steps (col h w j) k) := by
  unfold k1_pay6
  pointwise
  rw [k1_pay5_apply]
  rfl

theorem k1_pay7_apply : k1_pay7 (F := Ideal) h w (ix2 k j) = resid (col h w j) k := by
  unfold k1_pay7
  pointwise
  rw [k1_pay4_apply, k1_pay5_apply]
  rfl

theorem k1_pay8_apply : k1_pay8 (F := Ideal) h w (ix2 (0 : Fin 1) j) = scale (resid (col h w j)) := by
  rw [show resid (col h w j) = fun k => k1_pay7 (F := Ideal) h w (ix2 k j) from funext fun k => (k1_pay7_apply h w k j).symm]
  unfold k1_pay8
  generalize k1_pay7 (F := Ideal) h w = Y
  pointwise
  rfl

theorem k1_pay9_apply : k1_pay9 (F := Ideal) h w (ix2 k j) = byte (steps (resid (col h w j)) k) := by
  unfold k1_pay9
  pointwise
  rw [k1_pay7_apply, k1_pay8_apply]
  rfl

theorem k1_pay10_apply : k1_pay10 (F := Ideal) h w (ix2 (0 : Fin 1) j) = Ideal.div (scale (col h w j)) (lit 0x437E0000#32) := by
  unfold k1_pay10
  pointwise
  rw [k1_pay4_apply]

theorem k1_pay12_apply (v : FVec Ideal S1x32 .f32) : k1_pay12 (F := Ideal) v (ix2 (0 : Fin 1) j) = v (ix2 (0 : Fin 1) j) := by
  unfold k1_pay12
  pointwise

theorem k1_pay13_apply (v : FVec Ideal S1x32 .f32) : k1_pay13 (F := Ideal) v (ix2 (0 : Fin 1) j) = Ideal.div (v (ix2 (0 : Fin 1) j)) (lit 0x437E0000#32) := by
  unfold k1_pay13
  pointwise

theorem k1_pay14_apply (Y : FVec Ideal S4096x32 .f32) : k1_pay14 (F := Ideal) Y (ix2 (0 : Fin 1) j) = lit 0x3F000000#32 * ∑ k : Fin 4096, Y (ix2 k j) := by
  unfold k1_pay14
  pointwise

end Quantise

/-! ## The second pipeline: the whole-number dots -/

/-- A plain product of bytes at an index: one sum over the contracted coordinate. -/
theorem dotI8_plain {M K N : ℕ} (a : IVec ⟨2, ![M, K]⟩ 8) (b : IVec ⟨2, ![K, N]⟩ 8) (p : Fin M) (j : Fin N) :
    dotI8 (DotDims.plain M K N) a b (ix2 p j) = ∑ k : Fin K, (a (ix2 p k)).toInt * (b (ix2 k j)).toInt := by
  unfold dotI8
  rw [← Equiv.sum_comp (DotDims.plainContr M K N).symm]
  refine Finset.sum_congr rfl fun k _ => ?_
  have hk := ValueIdx.contrEquiv1_symm_val _ K (DotDims.plain_contr_rank M K N) (DotDims.plain_contr_size M K N) k
  have el : (DotDims.plain M K N).lhsIdx (ix2 p j) ((DotDims.plainContr M K N).symm k) = ix2 p k := by
    funext x
    match x with
    | ⟨0, _⟩ => rfl
    | ⟨1, _⟩ => exact Fin.ext hk
  have er : (DotDims.plain M K N).rhsIdx (ix2 p j) ((DotDims.plainContr M K N).symm k) = ix2 k j := by
    funext x
    match x with
    | ⟨0, _⟩ => exact Fin.ext hk
    | ⟨1, _⟩ => rfl
  rw [el, er]

/-- A dot of bytes over 4096 positions is within the product's exact range, so it is the whole-number sum. -/
theorem dot_bytes (a : IVec S1024x4096 8) (b : IVec S4096x32 8) (p : Fin 1024) (j : Fin 32) :
    (matmulI8 IntMxuNumerics.v5e dot_S1024x4096_S4096x32_S1024x32_1_0_0_1_n_n a b (constantI S1024x32 32 0#32) (ix2 p j)).toInt
      = ∑ k : Fin 4096, (a (ix2 p k)).toInt * (b (ix2 k j)).toInt := by
  have hS : absDotI8 dot_S1024x4096_S4096x32_S1024x32_1_0_0_1_n_n a b (ix2 p j) ≤ IntMxuNumerics.v5e.exactUpTo :=
    (absDotI8_le_numel _ a b (ix2 p j)).trans (by decide)
  rw [matmulI8_toInt _ _ a b _ _ rfl hS]
  exact dotI8_plain a b p j

theorem k1_pay15_apply (q : Vec Ideal S1x1024x4096 .i8) (qhi qlo : Vec Ideal S4096x32 .i8) (shi slo cs : Vec Ideal S1x32 .f32) (b2 : Vec Ideal S1x1x32 .f32)
    (p : Fin 1024) (j : Fin 32) :
    k1_pay15 (F := Ideal) q qhi qlo shi slo cs b2 (ix2 p j)
      = max ((((((∑ k : Fin 4096, (q (ix3 (0 : Fin 1) p k)).toInt * (qhi (ix2 k j)).toInt : ℤ) : ℝ) : EReal) * shi (ix2 (0 : Fin 1) j)
            + (((∑ k : Fin 4096, (q (ix3 (0 : Fin 1) p k)).toInt * (qlo (ix2 k j)).toInt : ℤ) : ℝ) : EReal) * slo (ix2 (0 : Fin 1) j))
          + cs (ix2 (0 : Fin 1) j)) + b2 (ix3 (0 : Fin 1) (0 : Fin 1) j)) (lit 0x00000000#32) := by
  unfold k1_pay15
  pointwise
  rw [show ∀ x : BitVec 32, FloatOps.sitofp (F := Ideal) .f32 x = (((x.toInt : ℤ) : ℝ) : EReal) from fun _ => rfl,
    show ∀ x : BitVec 32, FloatOps.sitofp (F := Ideal) .f32 x = (((x.toInt : ℤ) : ℝ) : EReal) from fun _ => rfl, dot_bytes, dot_bytes]
  pointwise

/-- A band's embedding entry, from the codes of the row and the quantised column. -/
theorem val_emb_apply (q : Vec Ideal S1x1024x4096 .i8) (h : Vec Ideal S1x4096x64 .bf16) (w2 : Vec Ideal S3x64x32 .bf16) (b2 : Vec Ideal S3x1x32 .f32) (m : Fin 3)
    (p : Fin 1024) (j : Fin 32) (A : Fin 4096 → EReal) (hq : ∀ k, q (ix3 (0 : Fin 1) p k) = byte (code (A k))) :
    val_emb (F := Ideal) q (val_qhi h w2 m) (val_qlo h w2 m) (val_shi h w2 m) (val_slo h w2 m) (val_cs h w2 m) b2 m (ix2 p j)
      = embK A (col h (slab w2 m) j) (b2 (ix3 m (0 : Fin 1) j)) := by
  unfold val_emb val_qhi val_qlo val_shi val_slo val_cs
  rw [k1_pay15_apply, k1_pay12_apply, k1_pay13_apply, k1_pay14_apply, k1_pay10_apply, k1_pay8_apply, slab_apply]
  simp only [hq, k1_pay6_apply, k1_pay9_apply]
  rfl

/-! ## The second pipeline: attention and log-softmax -/

theorem k1_pay11_apply (e2 e0 e1 : FVec Ideal S1024x32 .f32) (a : Vec Ideal S32x1 .f32) (p : Fin 1024) (f : Fin 32) (e : Fin 3 → Fin 32 → EReal)
    (h0 : ∀ f, e0 (ix2 p f) = e 0 f) (h1 : ∀ f, e1 (ix2 p f) = e 1 f) (h2 : ∀ f, e2 (ix2 p f) = e 2 f) :
    k1_pay11 (F := Ideal) e2 e0 e1 a (ix2 p f) = mean e (fun f => a (ix2 f (0 : Fin 1))) f := by
  unfold k1_pay11
  pointwise
  simp only [h0, h1, h2, leaky_pos]
  unfold mean weight
  rw [fold_max3, Fin.sum_univ_three, Fin.sum_univ_three]
  rfl

theorem k1_pay2_apply (o : FVec Ideal S1024x32 .f32) (w : Vec Ideal S32x8 .f32) (b : Vec Ideal S1x8 .f32) (p : Fin 1024) (j : Fin 8) :
    k1_pay2 (F := Ideal) o w b (ix2 p j) = logProb (fun f => o (ix2 p f)) (fun f j => w (ix2 f j)) (fun j => b (ix2 (0 : Fin 1) j)) j := by
  unfold k1_pay2
  pointwise
  unfold logProb below logit
  rw [lit_zero]

end Cert.Hand
-- ==== Proof.KernelValue.lean ====
/-
  The kernel's result as the mathematics of its arguments: the first region's arrays, the second region's quantised operands and
  embeddings, and the rows it leaves.
-/
module

public import proofs.«01_k».proof.Proof.Result
public import proofs.«01_k».proof.Proof.KernelReads

@[expose] public section

noncomputable section

namespace Cert.Hand

open Cert.KernelIdeal Cert.KernelIdeal.Gen
open Idealize.ShloMosaic Idealize.ShloMosaic.TcCoe
open scoped BigOperators

/-! ## Every row lies in a band -/

theorem exists_bandRow (i : Fin 4096) : ∃ (r : Fin 4) (p : Fin 1024), i = bandRow r p :=
  ⟨⟨i.val / 1024, by omega⟩, ⟨i.val % 1024, by omega⟩, Fin.ext (by show i.val = 1024 * (i.val / 1024) + i.val % 1024; omega)⟩

/-! ## The arguments on coordinates -/

section Args

variable (m : (ℓ : Loc nD τ sig) → Buf (Elt Ideal) ℓ) (c : Dev nD)

def aX (i : Fin 4096) (k : Fin 128) : EReal := m ((c.tc : Thread nD τ).loc main_arg0) (ix2 i k)
def aAdj (g : Fin 3) (i k : Fin 4096) : EReal := m ((c.tc : Thread nD τ).loc main_arg1) (ix3 g i k)
def aW1 (g : Fin 3) (k : Fin 128) (f : Fin 64) : EReal := m ((c.tc : Thread nD τ).loc main_arg2) (ix3 g k f)
def aB1 (g : Fin 3) (f : Fin 64) : EReal := m ((c.tc : Thread nD τ).loc main_arg3) (ix2 g f)
def aW2 (g : Fin 3) (f : Fin 64) (j : Fin 32) : EReal := m ((c.tc : Thread nD τ).loc main_arg4) (ix3 g f j)
def aB2 (g : Fin 3) (j : Fin 32) : EReal := m ((c.tc : Thread nD τ).loc main_arg5) (ix2 g j)
def aA (j : Fin 32) : EReal := m ((c.tc : Thread nD τ).loc main_arg6) (ix1 j)
def aWl (f : Fin 32) (j : Fin 8) : EReal := m ((c.tc : Thread nD τ).loc main_arg7) (ix2 f j)
def aBl (j : Fin 8) : EReal := m ((c.tc : Thread nD τ).loc main_arg8) (ix1 j)

/-! ## The first region -/

theorem y1At_eq (g : Fin 3) (r : Fin 4) (k : Fin 4096) (f : Fin 64) :
    y1At (F := Ideal) (V1 m) c (pt0 g r) (ix2 k f) = sY1 (aX m c) (aW1 m c) g k f := by
  unfold y1At
  rw [val_y1_apply, rep0_pt, gr0_pt, in0_x_eq, in0_w1_eq, V1_arg m c main_arg0 (by decide), V1_arg m c main_arg2 (by decide)]
  rfl

theorem h1At_eq (g : Fin 3) (r : Fin 4) (p : Fin 1024) (f : Fin 64) :
    h1At (F := Ideal) (V1 m) c (pt0 g r) (ix3 (0 : Fin 1) p f) = sH1 (aX m c) (aAdj m c) (aW1 m c) (aB1 m c) g (bandRow r p) f := by
  unfold h1At sH1
  rw [val_h1_apply, gr0_pt, in0_b1_eq, V1_v0]
  have hb : shapeCast S3x1x64 (m ((c.tc : Thread nD τ).loc main_arg3)) shapeCasts_S3x64_S3x1x64 (ix3 g (0 : Fin 1) f) = aB1 m c g f := by
    unfold aB1
    pointwise
  have ha : ∀ k, in0_adj (F := Ideal) (V1 m) c (pt0 g r) (ix3 (0 : Fin 1) p k) = aAdj m c g (bandRow r p) k := by
    intro k
    rw [ix3_eq_valueIdx, in0_adj_apply, V1_arg m c main_arg1 (by decide), ← ix3_eq_valueIdx]
    rfl
  rw [hb]
  simp only [ha, y1At_eq]

theorem qAt_eq (g : Fin 3) (r : Fin 4) (p : Fin 1024) (k : Fin 4096) :
    qAt (F := Ideal) (V1 m) c (pt0 g r) (ix3 (0 : Fin 1) p k) = byte (code (aAdj m c g (bandRow r p) k)) := by
  unfold qAt
  rw [k0_pay4_apply, ix3_eq_valueIdx, in0_adj_apply, V1_arg m c main_arg1 (by decide), ← ix3_eq_valueIdx]
  rfl

/-! ## The second region -/

/-- What graph `g`'s point of the second region reads of the first layer. -/
theorem in1_h_eq (g : Fin 3) (r : Fin 4) (k : Fin 4096) (f : Fin 64) :
    in1_h (F := Ideal) (W2 m) c (pt1 g r) (ix3 (0 : Fin 1) k f) = sH1 (aX m c) (aAdj m c) (aW1 m c) (aB1 m c) g k f := by
  obtain ⟨r', p, rfl⟩ := exists_bandRow k
  rw [ix3_eq_valueIdx, in1_h_apply, W2_h1, ← ix3_eq_valueIdx]
  exact h1At_eq m c g r' p f

theorem in1_q_eq (g : Fin 3) (r : Fin 4) (p : Fin 1024) (k : Fin 4096) :
    in1_q (F := Ideal) (W2 m) c (pt1 g r) (ix3 (0 : Fin 1) p k) = byte (code (aAdj m c g (bandRow r p) k)) := by
  rw [ix3_eq_valueIdx, in1_q_apply, W2_q, ← ix3_eq_valueIdx]
  exact qAt_eq m c g r p k

/-- A column of the second product's right operand. -/
theorem col_eq (g : Fin 3) (r : Fin 4) (j : Fin 32) :
    col (in1_h (F := Ideal) (W2 m) c (pt1 g r)) (slab (in1_w2 (F := Ideal) (W2 m) c (pt1 g r)) g) j
      = sY2 (aX m c) (aAdj m c) (aW1 m c) (aB1 m c) (aW2 m c) g j := by
  funext k
  unfold col sY2
  rw [k1_pay3_apply, in1_w2_eq, W2_v4, V1_v4]
  simp only [slab_apply, in1_h_eq]
  rfl

/-- A row of a graph's embedding. -/
theorem embAt_eq (g : Fin 3) (r : Fin 4) (p : Fin 1024) (j : Fin 32) :
    embAt (F := Ideal) (W2 m) c (pt1 g r) (ix2 p j)
      = sEmb (aX m c) (aAdj m c) (aW1 m c) (aB1 m c) (aW2 m c) (aB2 m c) g (bandRow r p) j := by
  unfold embAt qhiAt qloAt shiAt sloAt csAt
  rw [rep1_pt, gr1_pt, gr1_pt, val_emb_apply _ _ _ _ g p j (aAdj m c g (bandRow r p)) (in1_q_eq m c g r p), col_eq, embK_eq_embR, in1_b2_eq, W2_v1, V1_v1]
  unfold sEmb
  congr 1
  unfold aB2
  pointwise

/-- A row of the program's result. -/
theorem outAt_eq (r : Fin 4) (p : Fin 1024) (j : Fin 8) :
    outAt (F := Ideal) (W2 m) c (pt1 2 r) (ix2 p j)
      = logProb (mean (fun g => sEmb (aX m c) (aAdj m c) (aW1 m c) (aB1 m c) (aW2 m c) (aB2 m c) g (bandRow r p)) (aA m c)) (aWl m c) (aBl m c) j := by
  unfold outAt val_out
  rw [k1_pay2_apply, back8_pt, back4_pt]
  have ho : (fun f => k1_pay11 (F := Ideal) (embAt (W2 m) c (pt1 2 r)) (embAt (W2 m) c (pt1 0 r)) (embAt (W2 m) c (pt1 1 r)) (in1_a (W2 m) c (pt1 2 r)) (ix2 p f))
      = mean (fun g => sEmb (aX m c) (aAdj m c) (aW1 m c) (aB1 m c) (aW2 m c) (aB2 m c) g (bandRow r p)) (aA m c) := by
    funext f
    rw [k1_pay11_apply _ _ _ _ p f (fun g => sEmb (aX m c) (aAdj m c) (aW1 m c) (aB1 m c) (aW2 m c) (aB2 m c) g (bandRow r p))
      (fun f => embAt_eq m c 0 r p f) (fun f => embAt_eq m c 1 r p f) (fun f => embAt_eq m c 2 r p f), in1_a_eq, W2_v2, V1_v2]
    congr 1
    funext f
    unfold aA
    pointwise
  have hb : (fun j => in1_bl (F := Ideal) (W2 m) c (pt1 2 r) (ix2 (0 : Fin 1) j)) = aBl m c := by
    funext j
    rw [in1_bl_eq, W2_v3, V1_v3]
    unfold aBl
    pointwise
  rw [ho, hb, in1_wl_eq, W2_arg7, V1_arg m c main_arg7 (by decide)]
  rfl

/-- What the program leaves in its result. -/
theorem result_eq (V' : Valuation τ sig (Elt Ideal)) (h : Leaves (pdats m) marks (lefts m) 1 c (W2 m c) V') (i : Fin 4096) (j : Fin 8) :
    V' (Proc.devRef .tc main_v6) (ix2 i j)
      = logProb (mean (fun g => sEmb (aX m c) (aAdj m c) (aW1 m c) (aB1 m c) (aW2 m c) (aB2 m c) g i) (aA m c)) (aWl m c) (aBl m c) j := by
  obtain ⟨r, p, rfl⟩ := exists_bandRow i
  rw [ix2_eq_valueIdx, leaves1_out m c V' h, ← ix2_eq_valueIdx]
  exact outAt_eq m c r p j

end Args

end Cert.Hand
-- ==== Proof.RefReads.lean ====
/-
  The reference's values read element by element over the extended reals, as the same mathematics of its arguments.
-/
module

public import proofs.«01_k».proof.Proof.Gen.ReferenceIdeal.Read
public import proofs.«01_k».proof.Proof.Spec
public import Idealize.ShloMosaic.Lib.Pointwise.Tactic
public import Idealize.ShloMosaic.Lib.Pointwise.Contract
public import Idealize.ShloMosaic.Lib.Pointwise.Reduce
public import Idealize.ShloMosaic.Lib.Pointwise.ReduceUnfold
public import Idealize.ShloMosaic.Lib.Pointwise.Reshape
public import Idealize.ShloMosaic.Lib.Pointwise.Sums
public import Idealize.ShloMosaic.Lib.Pointwise.Select

@[expose] public section

noncomputable section

namespace Cert.Hand.Ref

open Cert.ReferenceIdeal Cert.ReferenceIdeal.Read
open Idealize.ShloMosaic Idealize.ShloMosaic.TcCoe
open scoped BigOperators

/-- An array's entries as a function of its coordinates. -/
abbrev at1 {a : Nat} (X : (⟨1, ![a]⟩ : Shape).Idx → EReal) (i : Fin a) : EReal := X (ix1 i)
abbrev at2 {a b : Nat} (X : (⟨2, ![a, b]⟩ : Shape).Idx → EReal) (i : Fin a) (j : Fin b) : EReal := X (ix2 i j)
abbrev at3 {a b d : Nat} (X : (⟨3, ![a, b, d]⟩ : Shape).Idx → EReal) (i : Fin a) (j : Fin b) (k : Fin d) : EReal := X (ix3 i j k)

section Reads

variable (x0 : FVec Ideal S4096x128 .f32) (x1 : FVec Ideal S3x4096x4096 .f32) (x2 : FVec Ideal S3x128x64 .f32) (x3 : FVec Ideal S3x64 .f32)
  (x4 : FVec Ideal S3x64x32 .f32) (x5 : FVec Ideal S3x32 .f32) (x6 : FVec Ideal S32 .f32) (x7 : FVec Ideal S32x8 .f32) (x8 : FVec Ideal S8 .f32)
  (g : Fin 3) (r k : Fin 4096)

/-! ## The first convolution -/

theorem v1_read (f : Fin 64) : val_main_v1 (F := Ideal) x0 x2 (ix3 g k f) = sY1 (at2 x0) (at3 x2) g k f := by
  unfold val_main_v1 val_main_v0 sY1
  pointwise
  exact Finset.sum_congr rfl fun _ _ => mul_comm _ _

theorem v6_read (f : Fin 64) : val_main_v6 (F := Ideal) x0 x1 x2 x3 (ix3 g r f) = sH1 (at2 x0) (at3 x1) (at3 x2) (at2 x3) g r f := by
  unfold val_main_v6 val_main_v5 val_main_v4 val_main_v3 val_main_v2 val_main_call0_v0 val_main_call0_cst sH1
  pointwise
  simp only [v1_read, lit_zero]

/-! ## The quantisers -/

theorem v12_read : val_main_v12 (F := Ideal) x1 (ix3 g r k) = clip8 (code (x1 (ix3 g r k))) := by
  unfold val_main_v12 val_main_call2_v4 val_main_call2_v3 val_main_call2_v2 val_main_call2_v1 val_main_call2_v0 val_main_v11 val_main_v10 val_main_v9
    val_main_v8 val_main_v7 val_main_cst val_main_cst_0 val_main_cst_1 val_main_cst_2
  pointwise
  rfl

theorem v13_read (j : Fin 32) : val_main_v13 (F := Ideal) x0 x1 x2 x3 x4 (ix3 g k j) = sY2 (at2 x0) (at3 x1) (at3 x2) (at2 x3) (at3 x4) g j k := by
  unfold val_main_v13 sY2
  pointwise
  simp only [v6_read]

theorem v20_read (j : Fin 32) :
    val_main_v20 (F := Ideal) x0 x1 x2 x3 x4 (ix3 g (0 : Fin 1) j) = scale (sY2 (at2 x0) (at3 x1) (at3 x2) (at2 x3) (at3 x4) g j) := by
  unfold val_main_v20 val_main_v19 val_main_v18 val_main_v17 val_main_v16 val_main_v15 val_main_v14 val_main_cst_3 val_main_cst_4 val_main_cst_5
  pointwise
  simp only [v13_read]
  rfl

theorem v23_read (j : Fin 32) :
    val_main_v23 (F := Ideal) x0 x1 x2 x3 x4 (ix3 g k j) = steps (sY2 (at2 x0) (at3 x1) (at3 x2) (at2 x3) (at3 x4) g j) k := by
  unfold val_main_v23 val_main_v22 val_main_v21
  pointwise
  rw [v13_read, v20_read]
  rfl

theorem v26_read (j : Fin 32) :
    val_main_v26 (F := Ideal) x0 x1 x2 x3 x4 (ix3 g k j) = resid (sY2 (at2 x0) (at3 x1) (at3 x2) (at2 x3) (at3 x4) g j) k := by
  unfold val_main_v26 val_main_v25 val_main_v24
  pointwise
  rw [v13_read, v20_read, v23_read]
  rfl

theorem v33_read (j : Fin 32) :
    val_main_v33 (F := Ideal) x0 x1 x2 x3 x4 (ix3 g (0 : Fin 1) j) = scale (resid (sY2 (at2 x0) (at3 x1) (at3 x2) (at2 x3) (at3 x4) g j)) := by
  unfold val_main_v33 val_main_v32 val_main_v31 val_main_v30 val_main_v29 val_main_v28 val_main_v27 val_main_cst_6 val_main_cst_7 val_main_cst_8
  pointwise
  simp only [v26_read]
  rfl

theorem v36_read (j : Fin 32) :
    val_main_v36 (F := Ideal) x0 x1 x2 x3 x4 (ix3 g k j) = steps (resid (sY2 (at2 x0) (at3 x1) (at3 x2) (at2 x3) (at3 x4) g j)) k := by
  unfold val_main_v36 val_main_v35 val_main_v34
  pointwise
  rw [v26_read, v33_read]
  rfl

theorem v43_read (j : Fin 32) :
    val_main_v43 (F := Ideal) x0 x1 x2 x3 x4 (ix3 g k j)
      = scale (sY2 (at2 x0) (at3 x1) (at3 x2) (at2 x3) (at3 x4) g j) * clip8 (steps (sY2 (at2 x0) (at3 x1) (at3 x2) (at2 x3) (at3 x4) g j) k)
        + scale (resid (sY2 (at2 x0) (at3 x1) (at3 x2) (at2 x3) (at3 x4) g j))
          * clip8 (steps (resid (sY2 (at2 x0) (at3 x1) (at3 x2) (at2 x3) (at3 x4) g j)) k) := by
  unfold val_main_v43 val_main_v42 val_main_v41 val_main_v40 val_main_call6_v4 val_main_call6_v3 val_main_call6_v2 val_main_call6_v1 val_main_call6_v0
    val_main_v39 val_main_v38 val_main_v37 val_main_call5_v4 val_main_call5_v3 val_main_call5_v2 val_main_call5_v1 val_main_call5_v0
    val_main_cst_9 val_main_cst_10 val_main_cst_11 val_main_cst_12
  pointwise
  rw [v20_read, v23_read, v33_read, v36_read]
  rfl

/-! ## The second convolution -/

theorem v56_read (j : Fin 32) :
    val_main_v56 (F := Ideal) x0 x1 x2 x3 x4 x5 (ix3 g r j) = sEmb (at2 x0) (at3 x1) (at3 x2) (at2 x3) (at3 x4) (at2 x5) g r j := by
  unfold val_main_v56 val_main_v55 val_main_v54 val_main_v53 val_main_v52 val_main_v51 val_main_v50 val_main_v49 val_main_v48 val_main_v47 val_main_v46
    val_main_v45 val_main_v44 val_main_cst_13 val_main_cst_14 val_main_cst_15 val_main_call7_v0 val_main_call7_cst sEmb embR
  pointwise
  simp only [v12_read, v43_read, v13_read, lit_zero]

/-! ## Attention and log-softmax -/

/-- A node's three embeddings. -/
abbrev embs (r : Fin 4096) : Fin 3 → Fin 32 → EReal := fun g => sEmb (at2 x0) (at3 x1) (at3 x2) (at2 x3) (at3 x4) (at2 x5) g r

theorem v57_read : val_main_v57 (F := Ideal) x0 x1 x2 x3 x4 x5 x6 (ix2 g r) = ∑ f, embs x0 x1 x2 x3 x4 x5 r g f * x6 (ix1 f) := by
  unfold val_main_v57
  pointwise
  simp only [v56_read]

theorem v58_read : val_main_v58 (F := Ideal) x0 x1 x2 x3 x4 x5 x6 (ix2 g r) = score (embs x0 x1 x2 x3 x4 x5 r) (at1 x6) g := by
  unfold val_main_v58 val_main_call8_v4 val_main_call8_v3 val_main_call8_v2 val_main_call8_v1 val_main_call8_v0 val_main_call8_cst val_main_cst_16
  pointwise
  rw [v57_read]
  rfl

theorem v63_read : val_main_v63 (F := Ideal) x0 x1 x2 x3 x4 x5 x6 (ix2 g r) = weight (embs x0 x1 x2 x3 x4 x5 r) (at1 x6) g := by
  unfold val_main_v63 val_main_v62 val_main_v61 val_main_v60 val_main_v59 val_main_cst_17
  pointwise
  simp only [v58_read]
  rfl

theorem v68_read (f : Fin 32) : val_main_v68 (F := Ideal) x0 x1 x2 x3 x4 x5 x6 (ix2 r f) = mean (embs x0 x1 x2 x3 x4 x5 r) (at1 x6) f := by
  unfold val_main_v68 val_main_v67 val_main_v66 val_main_v65 val_main_v64 val_main_cst_18
  pointwise
  simp only [v63_read, v56_read]
  rfl

theorem v73_read (j : Fin 8) :
    val_main_v73 (F := Ideal) x0 x1 x2 x3 x4 x5 x6 x7 x8 (ix2 r j) = logit (mean (embs x0 x1 x2 x3 x4 x5 r) (at1 x6)) (at2 x7) (at1 x8) j := by
  unfold val_main_v73 val_main_v72 val_main_v71 val_main_v70 val_main_v69 val_main_call9_v0 val_main_call9_cst logit
  pointwise
  simp only [v68_read, lit_zero]

theorem call10_v5_read (j : Fin 8) :
    val_main_call10_v5 (F := Ideal) x0 x1 x2 x3 x4 x5 x6 x7 x8 (ix2 r j) = below (mean (embs x0 x1 x2 x3 x4 x5 r) (at1 x6)) (at2 x7) (at1 x8) j := by
  unfold val_main_call10_v5 val_main_call10_v4 val_main_call10_v3 val_main_call10_v2 val_main_call10_v1 val_main_call10_v0 val_main_call10_cst
    val_main_call10_cst_0 below
  pointwise
  simp only [v73_read]
  rw [show Ideal.ofBits FTy.f32 4286578688#32 = ⊥ from lit_bot, lit_bot, max_eq_right bot_le]

/-- The reference's result. -/
theorem v74_read (j : Fin 8) :
    val_main_v74 (F := Ideal) x0 x1 x2 x3 x4 x5 x6 x7 x8 (ix2 r j) = logProb (mean (embs x0 x1 x2 x3 x4 x5 r) (at1 x6)) (at2 x7) (at1 x8) j := by
  unfold val_main_v74 val_main_call10_v10 val_main_call10_v9 val_main_call10_v8 val_main_call10_v7 val_main_call10_v6 val_main_call10_cst_1 logProb
  pointwise
  simp only [call10_v5_read]

end Reads

end Cert.Hand.Ref
-- ==== Proof.lean ====
/-
  The claims' proof. The run of the kernel is proved once, at any floats (Run.lean), and gives both of its frames. What the kernel leaves
  (KernelValue.lean) and what the reference leaves (RefReads.lean) are the same mathematics of the arguments (Spec.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.KernelValue
public import proofs.«01_k».proof.Proof.RefReads
public import Idealize.ShloMosaic.Lib.Quiescent

@[expose] public section

noncomputable section

namespace Cert.Proof

open Idealize.ShloMosaic Idealize.ShloMosaic.TcCoe Idealize.SL.Sem Cert.Hand

/-- The two programs call the same bodies. -/
theorem bodies_same : Cert.Kernel.defs₀ (F := Bits) = Cert.KernelIdeal.defs₀ (F := Bits) := by
  refine congrArg Defs.onTc (funext fun l => ?_)
  match l with
  | 0 => rfl
  | 1 => rfl

theorem defs_same : Cert.Kernel.defs (F := Bits) = Cert.KernelIdeal.defs (F := Bits) :=
  congrArg (Pipeline.defs (Cert.Kernel.pcfgs (F := Bits))) bodies_same

/-- The kernel's frame, from the run at the machine's words: the two programs have the same text. -/
theorem frame_kernel : Cert.quiescent_Kernel (hKernel := Cert.Kernel.Gen.facts) := fun m ρ _ => by
  have h := (θ_run Cert.KernelIdeal.defs _ _).mono (fun _ h => And.intro (fun c => (h.1 c).1) h.2) (run_main (F := Bits) m ρ)
  rw [defs_same]
  exact h

/-- The ideal kernel's frame, from the run at the extended reals. -/
theorem frame_ideal : Cert.quiescent_KernelIdeal (hKernelIdeal := Cert.KernelIdeal.Gen.facts) := fun m ρ _ =>
  (θ_run Cert.KernelIdeal.defs _ _).mono (fun _ h => And.intro (fun c => (h.1 c).1) h.2) (run_main (F := Ideal) m ρ)

/-- The reference's frame, from its run. -/
theorem frame_reference : Cert.quiescent_ReferenceIdeal (hReferenceIdeal := Cert.ReferenceIdeal.Gen.facts) := fun m ρ _ => by
  have h := Cert.ReferenceIdeal.Value.run (F := Ideal) m ρ
  exact (θ_run Cert.ReferenceIdeal.defs _ _).mono (fun r h => And.intro (fun c => (h c).2) (sem_eq_zero_of_no_sems rfl r.2)) h

/-- The result as the mathematics of the kernel's arguments. -/
def result (m : (ℓ : Loc Cert.KernelIdeal.nD Cert.KernelIdeal.τ Cert.KernelIdeal.sig) → Buf (Elt Ideal) ℓ) (c : Dev Cert.KernelIdeal.nD) :
    Cert.KernelIdeal.S4096x8.Idx → EReal := fun y =>
  logProb (mean (fun g => sEmb (aX m c) (aAdj m c) (aW1 m c) (aB1 m c) (aW2 m c) (aB2 m c) g (y 0)) (aA m c)) (aWl m c) (aBl m c) (y 1)

/-- The kernel's result, whole. -/
theorem kernel_result (m : (ℓ : Loc Cert.KernelIdeal.nD Cert.KernelIdeal.τ Cert.KernelIdeal.sig) → Buf (Elt Ideal) ℓ) (c : Dev Cert.KernelIdeal.nD)
    (V' : Valuation Cert.KernelIdeal.τ Cert.KernelIdeal.sig (Elt Ideal)) (h : Leaves (pdats m) marks (lefts m) 1 c (W2 m c) V') :
    V' (Proc.devRef .tc Cert.KernelIdeal.main_v6) = result m c := by
  funext y
  rw [show y = ix2 (y 0) (y 1) from eq_ix2 y]
  exact result_eq m c V' h (y 0) (y 1)

/-- The reference's result, whole, from arguments equal to the kernel's. -/
theorem reference_result (m : (ℓ : Loc Cert.KernelIdeal.nD Cert.KernelIdeal.τ Cert.KernelIdeal.sig) → Buf (Elt Ideal) ℓ) (c : Dev Cert.KernelIdeal.nD) :
    Cert.ReferenceIdeal.Read.val_main_v74 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = result m c := by
  funext y
  rw [show y = ix2 (y 0) (y 1) from eq_ix2 y]
  exact Ref.v74_read _ _ _ _ _ _ _ _ _ (y 0) (y 1)

/-- Kernel and reference compute the same function over the extended reals. -/
theorem value : Cert.algebraic_KernelIdeal_ReferenceIdeal (hKernelIdeal := Cert.KernelIdeal.Gen.facts)
    (hReferenceIdeal := Cert.ReferenceIdeal.Gen.facts) := by
  intro m ρ m' ρ' _ hm
  refine ⟨result m, ?_, ?_⟩
  · refine (θ_run Cert.KernelIdeal.defs _ _).mono (fun r h c => ?_) (run_main (F := Ideal) m ρ)
    obtain ⟨hargs, V', hV, hres⟩ := h.1 c
    exact ⟨hres.trans (kernel_result m c V' hV), hargs⟩
  · refine (θ_run Cert.ReferenceIdeal.defs _ _).mono (fun r h c => ?_) (Cert.ReferenceIdeal.Value.run (F := Ideal) m' ρ')
    refine ⟨((h c).1.trans (Cert.ReferenceIdeal.Read.val_main_v74_eq (Idealize.ShloMosaic.StableHlo.launchContents m' c))).trans ?_, (h c).2⟩
    obtain ⟨h0, h1, h2, h3, h4, h5, h6, h7, h8⟩ := hm c
    refine Eq.trans ?_ (reference_result m c)
    rw [← h0, ← h1, ← h2, ← h3, ← h4, ← h5, ← h6, ← h7, ← h8]

theorem claim : Cert.Claim :=
  ⟨Cert.Kernel.Gen.facts, Cert.KernelIdeal.Gen.facts, Cert.ReferenceIdeal.Gen.facts, frame_kernel, frame_ideal, frame_reference, trivial, value⟩

end Cert.Proof

end
